-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.PackStatement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x3072 : Shape := ⟨3, ![4, 512, 3072]⟩
abbrev S4x768x2048 : Shape := ⟨3, ![4, 768, 2048]⟩
abbrev S4x768 : Shape := ⟨2, ![4, 768]⟩
abbrev S4x64x8x24x128 : Shape := ⟨5, ![4, 64, 8, 24, 128]⟩
abbrev S4x64x24x8x128 : Shape := ⟨5, ![4, 64, 24, 8, 128]⟩
abbrev S256x192x128 : Shape := ⟨3, ![256, 192, 128]⟩
abbrev S4x6x128 : Shape := ⟨3, ![4, 6, 128]⟩
abbrev S6x4x128 : Shape := ⟨3, ![6, 4, 128]⟩
abbrev S24x128 : Shape := ⟨2, ![24, 128]⟩
abbrev S16x200x128 : Shape := ⟨3, ![16, 200, 128]⟩
abbrev S1x192x2048 : Shape := ⟨3, ![1, 192, 2048]⟩
abbrev S1536x128 : Shape := ⟨2, ![1536, 128]⟩
abbrev S32x128 : Shape := ⟨2, ![32, 128]⟩
abbrev S8x200x128 : Shape := ⟨3, ![8, 200, 128]⟩
abbrev S8x100x128 : Shape := ⟨3, ![8, 100, 128]⟩
abbrev S800x128 : Shape := ⟨2, ![800, 128]⟩
abbrev S8x128 : Shape := ⟨2, ![8, 128]⟩
abbrev S8x2x128 : Shape := ⟨3, ![8, 2, 128]⟩
abbrev S8x1x128 : Shape := ⟨3, ![8, 1, 128]⟩
abbrev S1x128 : Shape := ⟨2, ![1, 128]⟩
abbrev S32 : Shape := ⟨1, ![32]⟩
abbrev S32x1 : Shape := ⟨2, ![32, 1]⟩
abbrev S1x32x128 : Shape := ⟨3, ![1, 32, 128]⟩
abbrev S128 : Shape := ⟨1, ![128]⟩

abbrev nBuf : Space → Nat
  | .hbm => 32
  | .vmem => 22
  | .smem => 0
  | _ => 0

abbrev bufTy : (tb : Table) → Fin (tcTables nBuf tb) → BufTy
  | .hbm, ⟨0, _⟩ => ⟨S4x512x3072, .bf16⟩
  | .hbm, ⟨1, _⟩ => ⟨S4x512x3072, .bf16⟩
  | .hbm, ⟨2, _⟩ => ⟨S4x768x2048, .fp8e4m3⟩
  | .hbm, ⟨3, _⟩ => ⟨S4x768, .f32⟩
  | .hbm, ⟨4, _⟩ => ⟨S4x768x2048, .fp8e4m3⟩
  | .hbm, ⟨5, _⟩ => ⟨S4x768, .f32⟩
  | .hbm, ⟨6, _⟩ => ⟨S4x64x8x24x128, .bf16⟩
  | .hbm, ⟨7, _⟩ => ⟨S4x64x24x8x128, .bf16⟩
  | .hbm, ⟨8, _⟩ => ⟨S256x192x128, .bf16⟩
  | .hbm, ⟨9, _⟩ => ⟨S4x64x8x24x128, .bf16⟩
  | .hbm, ⟨10, _⟩ => ⟨S4x64x24x8x128, .bf16⟩
  | .hbm, ⟨11, _⟩ => ⟨S256x192x128, .bf16⟩
  | .hbm, ⟨12, _⟩ => ⟨S4x6x128, .f32⟩
  | .hbm, ⟨13, _⟩ => ⟨S6x4x128, .f32⟩
  | .hbm, ⟨14, _⟩ => ⟨S24x128, .f32⟩
  | .hbm, ⟨15, _⟩ => ⟨S4x6x128, .f32⟩
  | .hbm, ⟨16, _⟩ => ⟨S6x4x128, .f32⟩
  | .hbm, ⟨17, _⟩ => ⟨S24x128, .f32⟩
  | .hbm, ⟨18, _⟩ => ⟨S256x192x128, .bf16⟩
  | .hbm, ⟨19, _⟩ => ⟨S4x768x2048, .fp8e4m3⟩
  | .hbm, ⟨20, _⟩ => ⟨S24x128, .f32⟩
  | .hbm, ⟨21, _⟩ => ⟨S4x768x2048, .fp8e4m3⟩
  | .hbm, ⟨22, _⟩ => ⟨S24x128, .f32⟩
  | .hbm, ⟨23, _⟩ => ⟨S4x64x24x8x128, .bf16⟩
  | .hbm, ⟨24, _⟩ => ⟨S4x64x8x24x128, .bf16⟩
  | .hbm, ⟨25, _⟩ => ⟨S4x512x3072, .bf16⟩
  | .hbm, ⟨26, _⟩ => ⟨S6x4x128, .f32⟩
  | .hbm, ⟨27, _⟩ => ⟨S4x6x128, .f32⟩
  | .hbm, ⟨28, _⟩ => ⟨S4x768, .f32⟩
  | .hbm, ⟨29, _⟩ => ⟨S6x4x128, .f32⟩
  | .hbm, ⟨30, _⟩ => ⟨S4x6x128, .f32⟩
  | .hbm, ⟨31, _⟩ => ⟨S4x768, .f32⟩
  | .local _ .vmem, ⟨0, _⟩ => ⟨S16x200x128, .bf16⟩
  | .local _ .vmem, ⟨1, _⟩ => ⟨S16x200x128, .bf16⟩
  | .local _ .vmem, ⟨2, _⟩ => ⟨S16x200x128, .bf16⟩
  | .local _ .vmem, ⟨3, _⟩ => ⟨S16x200x128, .bf16⟩
  | .local _ .vmem, ⟨4, _⟩ => ⟨S1x192x2048, .fp8e4m3⟩
  | .local _ .vmem, ⟨5, _⟩ => ⟨S1x192x2048, .fp8e4m3⟩
  | .local _ .vmem, ⟨6, _⟩ => ⟨S24x128, .f32⟩
  | .local _ .vmem, ⟨7, _⟩ => ⟨S1x192x2048, .fp8e4m3⟩
  | .local _ .vmem, ⟨8, _⟩ => ⟨S1x192x2048, .fp8e4m3⟩
  | .local _ .vmem, ⟨9, _⟩ => ⟨S24x128, .f32⟩
  | .local _ .vmem, ⟨10, _⟩ => ⟨S16x200x128, .bf16⟩
  | .local _ .vmem, ⟨11, _⟩ => ⟨S16x200x128, .bf16⟩
  | .local _ .vmem, ⟨12, _⟩ => ⟨S1x192x2048, .fp8e4m3⟩
  | .local _ .vmem, ⟨13, _⟩ => ⟨S1x192x2048, .fp8e4m3⟩
  | .local _ .vmem, ⟨14, _⟩ => ⟨S24x128, .f32⟩
  | .local _ .vmem, ⟨15, _⟩ => ⟨S1x192x2048, .fp8e4m3⟩
  | .local _ .vmem, ⟨16, _⟩ => ⟨S1x192x2048, .fp8e4m3⟩
  | .local _ .vmem, ⟨17, _⟩ => ⟨S24x128, .f32⟩
  | .local _ .vmem, ⟨18, _⟩ => ⟨S1536x128, .f32⟩
  | .local _ .vmem, ⟨19, _⟩ => ⟨S1536x128, .f32⟩
  | .local _ .vmem, ⟨20, _⟩ => ⟨S1536x128, .f32⟩
  | .local _ .vmem, ⟨21, _⟩ => ⟨S1536x128, .f32⟩
  | _, _ => ⟨S4x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [BitOps F]

abbrev grid0 : Pipeline.Grid := ⟨2, ![4, 4], ![false, false]⟩

@[reducible] def k0_t1_loop : Scf.Loop 32 :=
  let c0_i32_2 : BitVec 32 := 0#32
  let c2_i32 : BitVec 32 := 2#32
  let v8 : BitVec 32 := Scalar.addi c0_i32_2 c2_i32
  let c1_i32 : BitVec 32 := 1#32
  ⟨c0_i32_2, v8, c1_i32⟩
def k0_off1 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_6 : BitVec 32 := 0#32
  let c0_i32_7 : BitVec 32 := 0#32
  ![v9.toNat, 0, 0]
def k0_off2 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_6 : BitVec 32 := 0#32
  let c0_i32_7 : BitVec 32 := 0#32
  ![v9.toNat, 0, 0]
def k0_off3 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_23 : BitVec 32 := 0#32
  ![v9.toNat, 2, 0]
def k0_off4 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_40 : BitVec 32 := 0#32
  ![v9.toNat, 4, 0]
def k0_off5 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_57 : BitVec 32 := 0#32
  ![v9.toNat, 6, 0]
def k0_off6 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_75 : BitVec 32 := 0#32
  ![v9.toNat, 8, 0]
def k0_off7 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_92 : BitVec 32 := 0#32
  ![v9.toNat, 10, 0]
def k0_off8 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_109 : BitVec 32 := 0#32
  ![v9.toNat, 12, 0]
def k0_off9 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_127 : BitVec 32 := 0#32
  ![v9.toNat, 14, 0]
def k0_off10 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_144 : BitVec 32 := 0#32
  ![v9.toNat, 16, 0]
def k0_off11 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_161 : BitVec 32 := 0#32
  ![v9.toNat, 18, 0]
def k0_off12 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_179 : BitVec 32 := 0#32
  ![v9.toNat, 20, 0]
def k0_off13 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_196 : BitVec 32 := 0#32
  ![v9.toNat, 22, 0]
def k0_off14 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_213 : BitVec 32 := 0#32
  ![v9.toNat, 24, 0]
def k0_off15 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_230 : BitVec 32 := 0#32
  ![v9.toNat, 26, 0]
def k0_off16 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_247 : BitVec 32 := 0#32
  ![v9.toNat, 28, 0]
def k0_off17 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_264 : BitVec 32 := 0#32
  ![v9.toNat, 30, 0]
def k0_off18 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_281 : BitVec 32 := 0#32
  ![v9.toNat, 32, 0]
def k0_off19 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_298 : BitVec 32 := 0#32
  ![v9.toNat, 34, 0]
def k0_off20 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_315 : BitVec 32 := 0#32
  ![v9.toNat, 36, 0]
def k0_off21 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_332 : BitVec 32 := 0#32
  ![v9.toNat, 38, 0]
def k0_off22 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_349 : BitVec 32 := 0#32
  ![v9.toNat, 40, 0]
def k0_off23 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_366 : BitVec 32 := 0#32
  ![v9.toNat, 42, 0]
def k0_off24 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_383 : BitVec 32 := 0#32
  ![v9.toNat, 44, 0]
def k0_off25 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_400 : BitVec 32 := 0#32
  ![v9.toNat, 46, 0]
def k0_off26 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_417 : BitVec 32 := 0#32
  ![v9.toNat, 48, 0]
def k0_off27 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_434 : BitVec 32 := 0#32
  ![v9.toNat, 50, 0]
def k0_off28 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_451 : BitVec 32 := 0#32
  ![v9.toNat, 52, 0]
def k0_off29 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_468 : BitVec 32 := 0#32
  ![v9.toNat, 54, 0]
def k0_off30 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_485 : BitVec 32 := 0#32
  ![v9.toNat, 56, 0]
def k0_off31 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_502 : BitVec 32 := 0#32
  ![v9.toNat, 58, 0]
def k0_off32 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_519 : BitVec 32 := 0#32
  ![v9.toNat, 60, 0]
def k0_off33 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_536 : BitVec 32 := 0#32
  ![v9.toNat, 62, 0]
def k0_off34 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_553 : BitVec 32 := 0#32
  ![v9.toNat, 64, 0]
def k0_off35 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_571 : BitVec 32 := 0#32
  ![v9.toNat, 66, 0]
def k0_off36 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_589 : BitVec 32 := 0#32
  ![v9.toNat, 68, 0]
def k0_off37 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_607 : BitVec 32 := 0#32
  ![v9.toNat, 70, 0]
def k0_off38 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_625 : BitVec 32 := 0#32
  ![v9.toNat, 72, 0]
def k0_off39 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_642 : BitVec 32 := 0#32
  ![v9.toNat, 74, 0]
def k0_off40 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_659 : BitVec 32 := 0#32
  ![v9.toNat, 76, 0]
def k0_off41 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_676 : BitVec 32 := 0#32
  ![v9.toNat, 78, 0]
def k0_off42 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_693 : BitVec 32 := 0#32
  ![v9.toNat, 80, 0]
def k0_off43 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_710 : BitVec 32 := 0#32
  ![v9.toNat, 82, 0]
def k0_off44 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_727 : BitVec 32 := 0#32
  ![v9.toNat, 84, 0]
def k0_off45 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_744 : BitVec 32 := 0#32
  ![v9.toNat, 86, 0]
def k0_off46 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_761 : BitVec 32 := 0#32
  ![v9.toNat, 88, 0]
def k0_off47 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_778 : BitVec 32 := 0#32
  ![v9.toNat, 90, 0]
def k0_off48 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_795 : BitVec 32 := 0#32
  ![v9.toNat, 92, 0]
def k0_off49 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_812 : BitVec 32 := 0#32
  ![v9.toNat, 94, 0]
def k0_off50 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_829 : BitVec 32 := 0#32
  ![v9.toNat, 96, 0]
def k0_off51 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_846 : BitVec 32 := 0#32
  ![v9.toNat, 98, 0]
def k0_off52 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_863 : BitVec 32 := 0#32
  ![v9.toNat, 100, 0]
def k0_off53 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_880 : BitVec 32 := 0#32
  ![v9.toNat, 102, 0]
def k0_off54 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_897 : BitVec 32 := 0#32
  ![v9.toNat, 104, 0]
def k0_off55 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_914 : BitVec 32 := 0#32
  ![v9.toNat, 106, 0]
def k0_off56 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_931 : BitVec 32 := 0#32
  ![v9.toNat, 108, 0]
def k0_off57 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_948 : BitVec 32 := 0#32
  ![v9.toNat, 110, 0]
def k0_off58 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_965 : BitVec 32 := 0#32
  ![v9.toNat, 112, 0]
def k0_off59 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_982 : BitVec 32 := 0#32
  ![v9.toNat, 114, 0]
def k0_off60 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_999 : BitVec 32 := 0#32
  ![v9.toNat, 116, 0]
def k0_off61 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1016 : BitVec 32 := 0#32
  ![v9.toNat, 118, 0]
def k0_off62 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1033 : BitVec 32 := 0#32
  ![v9.toNat, 120, 0]
def k0_off63 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1050 : BitVec 32 := 0#32
  ![v9.toNat, 122, 0]
def k0_off64 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1067 : BitVec 32 := 0#32
  ![v9.toNat, 124, 0]
def k0_off65 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1084 : BitVec 32 := 0#32
  ![v9.toNat, 126, 0]
def k0_off66 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1101 : BitVec 32 := 0#32
  ![v9.toNat, 128, 0]
def k0_off67 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1119 : BitVec 32 := 0#32
  ![v9.toNat, 130, 0]
def k0_off68 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1137 : BitVec 32 := 0#32
  ![v9.toNat, 132, 0]
def k0_off69 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1155 : BitVec 32 := 0#32
  ![v9.toNat, 134, 0]
def k0_off70 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1173 : BitVec 32 := 0#32
  ![v9.toNat, 136, 0]
def k0_off71 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1190 : BitVec 32 := 0#32
  ![v9.toNat, 138, 0]
def k0_off72 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1207 : BitVec 32 := 0#32
  ![v9.toNat, 140, 0]
def k0_off73 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1224 : BitVec 32 := 0#32
  ![v9.toNat, 142, 0]
def k0_off74 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1241 : BitVec 32 := 0#32
  ![v9.toNat, 144, 0]
def k0_off75 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1258 : BitVec 32 := 0#32
  ![v9.toNat, 146, 0]
def k0_off76 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1275 : BitVec 32 := 0#32
  ![v9.toNat, 148, 0]
def k0_off77 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1292 : BitVec 32 := 0#32
  ![v9.toNat, 150, 0]
def k0_off78 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1309 : BitVec 32 := 0#32
  ![v9.toNat, 152, 0]
def k0_off79 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1326 : BitVec 32 := 0#32
  ![v9.toNat, 154, 0]
def k0_off80 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1343 : BitVec 32 := 0#32
  ![v9.toNat, 156, 0]
def k0_off81 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1360 : BitVec 32 := 0#32
  ![v9.toNat, 158, 0]
def k0_off82 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1377 : BitVec 32 := 0#32
  ![v9.toNat, 160, 0]
def k0_off83 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1394 : BitVec 32 := 0#32
  ![v9.toNat, 162, 0]
def k0_off84 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1411 : BitVec 32 := 0#32
  ![v9.toNat, 164, 0]
def k0_off85 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1428 : BitVec 32 := 0#32
  ![v9.toNat, 166, 0]
def k0_off86 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1445 : BitVec 32 := 0#32
  ![v9.toNat, 168, 0]
def k0_off87 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1462 : BitVec 32 := 0#32
  ![v9.toNat, 170, 0]
def k0_off88 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1479 : BitVec 32 := 0#32
  ![v9.toNat, 172, 0]
def k0_off89 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1496 : BitVec 32 := 0#32
  ![v9.toNat, 174, 0]
def k0_off90 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1513 : BitVec 32 := 0#32
  ![v9.toNat, 176, 0]
def k0_off91 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1530 : BitVec 32 := 0#32
  ![v9.toNat, 178, 0]
def k0_off92 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1547 : BitVec 32 := 0#32
  ![v9.toNat, 180, 0]
def k0_off93 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1564 : BitVec 32 := 0#32
  ![v9.toNat, 182, 0]
def k0_off94 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1581 : BitVec 32 := 0#32
  ![v9.toNat, 184, 0]
def k0_off95 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1598 : BitVec 32 := 0#32
  ![v9.toNat, 186, 0]
def k0_off96 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1615 : BitVec 32 := 0#32
  ![v9.toNat, 188, 0]
def k0_off97 (k0_t1 : Fin k0_t1_loop.trips) : Fin 3 → Nat :=
  let c0_i32_2 : BitVec 32 := 0#32
  let c1_i32 : BitVec 32 := 1#32
  let arg17 : BitVec 32 := Scf.iv c0_i32_2 c1_i32 k0_t1
  let c8_i32 : BitVec 32 := 8#32
  let v9 : BitVec 32 := Scalar.muli arg17 c8_i32
  let c0_i32_1632 : BitVec 32 := 0#32
  ![v9.toNat, 190, 0]
def k0_off98 (i : grid0.Coords) (k0_t1 : Fin k0_t1_loop.trips) (c0_i32_1648 : BitVec 32) : Fin 2 → Nat :=
  let arg1 : BitVec 32 := BitVec.ofNat 32 (i 1).val
  let c2_i32_1649 : BitVec 32 := 2#32
  let v3278 : BitVec 32 := Scalar.muli arg1 c2_i32_1649
  let c3_i32_1650 : BitVec 32 := 3#32
  let v3279 : BitVec 32 := Scalar.muli v3278 c3_i32_1650
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let v3280 : BitVec 32 := Scalar.addi v3279 v3277
  let c32_i32 : BitVec 32 := 32#32
  let v3281 : BitVec 32 := Scalar.muli v3280 c32_i32
  let c0_i32_1657 : BitVec 32 := 0#32
  let v3295 : BitVec 1 := Scalar.cmpi .sgt v3281 c0_i32_1657
  let v3296 : BitVec 32 := Scalar.extui v3295
  let c0_i32_1658 : BitVec 32 := 0#32
  let v3297 : BitVec 1 := Scalar.cmpi .slt v3281 c0_i32_1658
  let v3298 : BitVec 32 := Scalar.extui v3297
  let v3299 : BitVec 32 := Scalar.subi v3296 v3298
  let c128_i32_1656 : BitVec 32 := 128#32
  let c0_i32_1659 : BitVec 32 := 0#32
  let v3300 : BitVec 1 := Scalar.cmpi .sgt c128_i32_1656 c0_i32_1659
  let v3301 : BitVec 32 := Scalar.extui v3300
  let c0_i32_1660 : BitVec 32 := 0#32
  let v3302 : BitVec 1 := Scalar.cmpi .slt c128_i32_1656 c0_i32_1660
  let v3303 : BitVec 32 := Scalar.extui v3302
  let v3304 : BitVec 32 := Scalar.subi v3301 v3303
  let v3305 : BitVec 1 := Scalar.cmpi .ne v3299 v3304
  let v3306 : BitVec 32 := Scalar.remsi v3281 c128_i32_1656
  let c0_i32_1661 : BitVec 32 := 0#32
  let v3307 : BitVec 1 := Scalar.cmpi .ne v3306 c0_i32_1661
  let v3308 : BitVec 1 := Scalar.andi v3305 v3307
  let v3294 : BitVec 32 := Scalar.divsi v3281 c128_i32_1656
  let c1_i32_1662 : BitVec 32 := 1#32
  let v3309 : BitVec 32 := Scalar.subi v3294 c1_i32_1662
  let v3310 : BitVec 32 := Scalar.select v3308 v3309 v3294
  let c4_i32 : BitVec 32 := 4#32
  let v3311 : BitVec 32 := Scalar.muli v3310 c4_i32
  let arg0 : BitVec 32 := BitVec.ofNat 32 (i 0).val
  let v3312 : BitVec 32 := Scalar.addi v3311 arg0
  let v3313 : Index := Scalar.indexCast v3312
  let c0_1663 : Index := 0#32
  ![v3313.toNat, 0]
def k0_mult1 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let c0_i32_1648 : BitVec 32 := 0#32
  let v3277 : BitVec 32 := Scalar.addi v3276 c0_i32_1648
  let c32_i32_1668 : BitVec 32 := 32#32
  let v3331 : BitVec 32 := Scalar.muli v3277 c32_i32_1668
  v3331
def k0_off99 (k0_t1 : Fin k0_t1_loop.trips) (c0_i32_1648 : BitVec 32) : Fin 3 → Nat :=
  let c0_1671 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3335 : Index := Scalar.indexCast v3332
  let c0_1672 : Index := 0#32
  ![0, v3335.toNat, 0]
def k0_off100 (k0_t1 : Fin k0_t1_loop.trips) (c0_i32_1648 : BitVec 32) : Fin 3 → Nat :=
  let c0_1694 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3386 : Index := Scalar.indexCast v3332
  let c128 : Index := 128#32
  ![0, v3386.toNat, 128]
def k0_off101 (k0_t1 : Fin k0_t1_loop.trips) (c0_i32_1648 : BitVec 32) : Fin 3 → Nat :=
  let c0_1716 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3437 : Index := Scalar.indexCast v3332
  let c256 : Index := 256#32
  ![0, v3437.toNat, 256]
def k0_off102 (k0_t1 : Fin k0_t1_loop.trips) (c0_i32_1648 : BitVec 32) : Fin 3 → Nat :=
  let c0_1738 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3488 : Index := Scalar.indexCast v3332
  let c384_1739 : Index := 384#32
  ![0, v3488.toNat, 384]
def k0_off103 (k0_t1 : Fin k0_t1_loop.trips) (c0_i32_1648 : BitVec 32) : Fin 3 → Nat :=
  let c0_1761 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3539 : Index := Scalar.indexCast v3332
  let c512 : Index := 512#32
  ![0, v3539.toNat, 512]
def k0_off104 (k0_t1 : Fin k0_t1_loop.trips) (c0_i32_1648 : BitVec 32) : Fin 3 → Nat :=
  let c0_1783 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3590 : Index := Scalar.indexCast v3332
  let c640 : Index := 640#32
  ![0, v3590.toNat, 640]
def k0_off105 (k0_t1 : Fin k0_t1_loop.trips) (c0_i32_1648 : BitVec 32) : Fin 3 → Nat :=
  let c0_1805 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3641 : Index := Scalar.indexCast v3332
  let c768_1806 : Index := 768#32
  ![0, v3641.toNat, 768]
def k0_off106 (k0_t1 : Fin k0_t1_loop.trips) (c0_i32_1648 : BitVec 32) : Fin 3 → Nat :=
  let c0_1828 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3692 : Index := Scalar.indexCast v3332
  let c896 : Index := 896#32
  ![0, v3692.toNat, 896]
def k0_off107 (k0_t1 : Fin k0_t1_loop.trips) (c0_i32_1648 : BitVec 32) : Fin 3 → Nat :=
  let c0_1850 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3743 : Index := Scalar.indexCast v3332
  let c1024 : Index := 1024#32
  ![0, v3743.toNat, 1024]
def k0_off108 (k0_t1 : Fin k0_t1_loop.trips) (c0_i32_1648 : BitVec 32) : Fin 3 → Nat :=
  let c0_1872 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3794 : Index := Scalar.indexCast v3332
  let c1152_1873 : Index := 1152#32
  ![0, v3794.toNat, 1152]
def k0_off109 (k0_t1 : Fin k0_t1_loop.trips) (c0_i32_1648 : BitVec 32) : Fin 3 → Nat :=
  let c0_1895 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3845 : Index := Scalar.indexCast v3332
  let c1280 : Index := 1280#32
  ![0, v3845.toNat, 1280]
def k0_off110 (k0_t1 : Fin k0_t1_loop.trips) (c0_i32_1648 : BitVec 32) : Fin 3 → Nat :=
  let c0_1917 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3896 : Index := Scalar.indexCast v3332
  let c1408 : Index := 1408#32
  ![0, v3896.toNat, 1408]
def k0_off111 (k0_t1 : Fin k0_t1_loop.trips) (c0_i32_1648 : BitVec 32) : Fin 3 → Nat :=
  let c0_1939 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3947 : Index := Scalar.indexCast v3332
  let c1536 : Index := 1536#32
  ![0, v3947.toNat, 1536]
def k0_off112 (k0_t1 : Fin k0_t1_loop.trips) (c0_i32_1648 : BitVec 32) : Fin 3 → Nat :=
  let c0_1961 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v3998 : Index := Scalar.indexCast v3332
  let c1664 : Index := 1664#32
  ![0, v3998.toNat, 1664]
def k0_off113 (k0_t1 : Fin k0_t1_loop.trips) (c0_i32_1648 : BitVec 32) : Fin 3 → Nat :=
  let c0_1983 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v4049 : Index := Scalar.indexCast v3332
  let c1792 : Index := 1792#32
  ![0, v4049.toNat, 1792]
def k0_off114 (k0_t1 : Fin k0_t1_loop.trips) (c0_i32_1648 : BitVec 32) : Fin 3 → Nat :=
  let c0_2005 : Index := 0#32
  let c0_i32_2 : BitVec 32 := 0#32
  let c1_i32 : BitVec 32 := 1#32
  let arg17 : BitVec 32 := Scf.iv c0_i32_2 c1_i32 k0_t1
  let c3_i32 : BitVec 32 := 3#32
  let v3276 : BitVec 32 := Scalar.muli arg17 c3_i32
  let v3277 : BitVec 32 := Scalar.addi v3276 c0_i32_1648
  let c32_i32_1668 : BitVec 32 := 32#32
  let v3331 : BitVec 32 := Scalar.muli v3277 c32_i32_1668
  let v3332 : BitVec 32 := v3331
  let v4100 : Index := Scalar.indexCast v3332
  let c1920 : Index := 1920#32
  ![0, v4100.toNat, 1920]
def k0_mult2 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c3_i32_2243 : BitVec 32 := 3#32
  let v4571 : BitVec 32 := Scalar.muli arg17 c3_i32_2243
  let c1_i32_2244 : BitVec 32 := 1#32
  let v4572 : BitVec 32 := Scalar.addi v4571 c1_i32_2244
  let c32_i32_2268 : BitVec 32 := 32#32
  let v4626 : BitVec 32 := Scalar.muli v4572 c32_i32_2268
  v4626
def k0_mult3 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c3_i32_2844 : BitVec 32 := 3#32
  let v5866 : BitVec 32 := Scalar.muli arg17 c3_i32_2844
  let c2_i32_2845 : BitVec 32 := 2#32
  let v5867 : BitVec 32 := Scalar.addi v5866 c2_i32_2845
  let c32_i32_2869 : BitVec 32 := 32#32
  let v5921 : BitVec 32 := Scalar.muli v5867 c32_i32_2869
  v5921
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x192x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x200x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S24x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x192x2048 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S24x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
abbrev S16x128 : Shape := ⟨2, ![16, 128]⟩
variable {F : FTy → Type} [FloatOps F]
-- ==== ReferenceIdeal.lean ====
abbrev S4x512x3072 : Shape := ⟨3, ![4, 512, 3072]⟩
abbrev S4x768x2048 : Shape := ⟨3, ![4, 768, 2048]⟩
abbrev S4x768 : Shape := ⟨2, ![4, 768]⟩
abbrev S4x768x1 : Shape := ⟨3, ![4, 768, 1]⟩

abbrev nBuf : Space → Nat
  | .hbm => 14
  | .vmem => 11
  | .smem => 0
  | _ => 0

abbrev bufTy : (tb : Table) → Fin (tcTables nBuf tb) → BufTy
  | .hbm, ⟨0, _⟩ => ⟨S4x512x3072, .bf16⟩
  | .hbm, ⟨1, _⟩ => ⟨S4x512x3072, .bf16⟩
  | .hbm, ⟨2, _⟩ => ⟨S4x768x2048, .fp8e4m3⟩
  | .hbm, ⟨3, _⟩ => ⟨S4x768, .f32⟩
  | .hbm, ⟨4, _⟩ => ⟨S4x768x2048, .fp8e4m3⟩
  | .hbm, ⟨5, _⟩ => ⟨S4x768, .f32⟩
  | .hbm, ⟨6, _⟩ => ⟨S4x768x2048, .bf16⟩
  | .hbm, ⟨7, _⟩ => ⟨S4x768x2048, .bf16⟩
  | .hbm, ⟨8, _⟩ => ⟨S4x768x2048, .bf16⟩
  | .hbm, ⟨9, _⟩ => ⟨S4x768x2048, .fp8e4m3⟩
  | .hbm, ⟨10, _⟩ => ⟨S4x768, .f32⟩
  | .hbm, ⟨11, _⟩ => ⟨S4x768x2048, .fp8e4m3⟩
  | .hbm, ⟨12, _⟩ => ⟨S4x768, .f32⟩
  | .hbm, ⟨13, _⟩ => ⟨S4x512x3072, .bf16⟩
  | .local _ .vmem, ⟨0, _⟩ => ⟨S4x768x2048, .bf16⟩
  | .local _ .vmem, ⟨1, _⟩ => ⟨S4x768x2048, .bf16⟩
  | .local _ .vmem, ⟨2, _⟩ => ⟨S4x768x2048, .fp8e4m3⟩
  | .local _ .vmem, ⟨3, _⟩ => ⟨S4x768, .f32⟩
  | .local _ .vmem, ⟨4, _⟩ => ⟨S4x768x2048, .fp8e4m3⟩
  | .local _ .vmem, ⟨5, _⟩ => ⟨S4x768, .f32⟩
  | .local _ .vmem, ⟨6, _⟩ => ⟨S4x768x2048, .bf16⟩
  | .local _ .vmem, ⟨7, _⟩ => ⟨S4x768x2048, .fp8e4m3⟩
  | .local _ .vmem, ⟨8, _⟩ => ⟨S4x768, .f32⟩
  | .local _ .vmem, ⟨9, _⟩ => ⟨S4x768x2048, .fp8e4m3⟩
  | .local _ .vmem, ⟨10, _⟩ => ⟨S4x768, .f32⟩
  | _, _ => ⟨S4x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x768x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x768x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x768x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x768x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Hoare.lean ====
/-
  A small program logic over a family of buffers. `Held σ` owns a fixed family of memrefs at the contents that the record `σ`
  gives; `Runs p σ Φ` says that `p`, run from `Held σ`, ends with a value and a record that meet `Φ`. A memref of the family is
  named by a `Lens`: how to take it out of `Held σ` and how to put it back at other contents. The rules for a load, a store, a
  sequence and a loop then speak of records alone.
-/
module

public import Idealize.ShloMosaic.Lib.Scf
public import Idealize.ShloMosaic.Lib.Writes
public import Idealize.ShloMosaic.Lib.Memref
public import Idealize.ShloMosaic.Lib.Pipeline.FrameSuffix
public import Idealize.ShloMosaic.Lib.Tactic

@[expose] public section

noncomputable section

namespace Cert.Hoare

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ₀ : Labels}

variable {St : Type}

/-- A store into the view at `r`, read back: the payload over what was there. -/
theorem read_store {κ : Kind} {sp : Space} {s : Shape} {e : EltTy} (v : View sig κ sp s e) (r : Rect s) (f : v.ty.Contents Val)
    (w : r.shape.Idx → Val e) : v.read Val ((v.slice r).write Val f w Finset.univ) = r.overlay (v.read Val f) w := by
  funext y
  by_cases hy : y ∈ r.set
  · obtain ⟨x, hx⟩ := r.exists_idx_of_mem hy
    have hx' : r.emb x = y := hx
    subst hx'
    rw [Rect.overlay_emb]
    exact View.read_writes_cons_emb v f r w [] x
  · rw [Rect.overlay_of_not_mem _ _ _ hy]
    exact View.read_writes_cons_miss v f ⟨r, w⟩ [] y hy

/-- The memref `M` is one of the family: taken out of `Held σ` at `get σ`, and put back at any `X`, which makes the record `set X σ`. -/
structure Lens (c : Dev nD) (Held : St → sProp (MT nD τ sig Unit Val ℕ (UR sig nD τ) ℕ)) {s : Shape} {e : EltTy} (M : Memref sig .tc .vmem s e) where
  get : St → (s.Idx → Val e)
  set : (s.Idx → Val e) → St → St
  set_get : ∀ σ, set (get σ) σ = σ
  out : ∀ σ, Held σ ⊢ iprop(owns (c : Thread nD τ) M fullShare (get σ) ∗ (∀ X, owns (c : Thread nD τ) M fullShare X -∗ Held (set X σ)))

/-- From `Held σ`, `p` ends with a value and a record meeting `Φ`, the family held at that record. -/
def Runs (defs₀ : Defs nD τ sig Val Λ₀) (c : Dev nD) (Held : St → sProp (MT nD τ sig Unit Val ℕ (UR sig nD τ) ℕ)) {α : Type} (p : Prog (TpuEff nD τ sig Val Λ₀ .tc) α) (σ : St) (Φ : α → St → Prop) : Prop :=
  Held σ ⊢ wp frame (wpE (Ix := Unit) (Name := ℕ) (U := UR sig nD τ) (Lvl := ℕ) defs₀ Variants.none (c : Thread nD τ) none) Set.univ p (fun a => iprop(∃ σ', ⌜Φ a σ'⌝ ∗ Held σ'))

/-- `p` keeps the family held, at whatever contents, and stays inside it. -/
def Keeps (defs₀ : Defs nD τ sig Val Λ₀) (c : Dev nD) (Held : St → sProp (MT nD τ sig Unit Val ℕ (UR sig nD τ) ℕ)) {α : Type} (p : Prog (TpuEff nD τ sig Val Λ₀ .tc) α) : Prop := ∀ σ, Runs defs₀ c Held p σ fun _ _ => True

variable {defs₀ : Defs nD τ sig Val Λ₀} {c : Dev nD} {Held : St → sProp (MT nD τ sig Unit Val ℕ (UR sig nD τ) ℕ)} {α β : Type} {σ : St}

/-- A program that does nothing. -/
theorem run_ret {a : α} {Φ : α → St → Prop} (h : Φ a σ) : Runs defs₀ c Held (pure a) σ Φ := by
  unfold Runs
  show _ ⊢ wp _ _ _ (Prog.ret a) _
  rw [wp_ret]
  iintro H
  imodintro
  iexists σ
  isplitr
  · ipureintro; exact h
  · iexact H

/-- A weaker statement of the end. -/
theorem run_mono {p : Prog (TpuEff nD τ sig Val Λ₀ .tc) α} {Φ Ψ : α → St → Prop} (h : Runs defs₀ c Held p σ Φ) (hΦ : ∀ a σ', Φ a σ' → Ψ a σ') :
    Runs defs₀ c Held p σ Ψ := by
  unfold Runs at *
  refine h.trans (wp_mono _ _ _ fun a => ?_)
  iintro ⟨%σ', %h', H⟩
  iexists σ'
  isplitr
  · ipureintro; exact hΦ a σ' h'
  · iexact H

/-- One program after another. -/
theorem run_bind {p : Prog (TpuEff nD τ sig Val Λ₀ .tc) α} {k : α → Prog (TpuEff nD τ sig Val Λ₀ .tc) β} {Ψ : α → St → Prop} {Φ : β → St → Prop}
    (h : Runs defs₀ c Held p σ Ψ) (hk : ∀ a σ', Ψ a σ' → Runs defs₀ c Held (k a) σ' Φ) : Runs defs₀ c Held (p >>= k) σ Φ := by
  unfold Runs at *
  rw [wp_bind]
  refine h.trans (wp_mono _ _ _ fun a => ?_)
  iintro ⟨%σ', %h', H⟩
  iapply (hk a σ' h')
  iexact H

variable {s : Shape} {e : EltTy} {M : Memref sig .tc .vmem s e}

/-- A load reads the buffer's contents. -/
theorem run_load (L : Lens c Held M) {r : LoadRect s} {hl : M.view.LoadsAt r} {Φ : (r.shape.Idx → Val e) → St → Prop}
    (h : Φ (fun j => L.get σ (r.idx j)) σ) : Runs defs₀ c Held (Prog.lift (.load M r hl)) σ Φ := by
  unfold Runs
  show _ ⊢ wp _ _ _ (Prog.op (TpuEff.load (nD := nD) (τ := τ) (Λ := Λ₀) (p := .tc) M r hl) Prog.ret) _
  refine (L.out σ).trans ?_
  unfold owns
  iintro ⟨⟨%f, %hf, H⟩, Hk⟩
  iapply (wp_load (𝒱 := Variants.none) (c := (c : Thread nD τ)) (bd := none) (E := Set.univ) (m := M) (r := r) (hl := hl) (S := M.view.set) (q := fullShare) (f := f)
    (Finset.map_subset_map.mpr (Finset.subset_univ _))) $$ H
  iintro H
  rw [wp_ret]
  imodintro
  iexists σ
  isplitr
  · ipureintro
    have e : M.view.readAt Val r f = fun j => L.get σ (r.idx j) := by rw [← hf]; rfl
    rw [e]; exact h
  · ihave H' := Hk $$ %(L.get σ) [H]
    · iexists f; isplitr
      · ipureintro; exact hf
      · iexact H
    rw [L.set_get]
    iexact H'

/-- A store lays its value over the buffer's contents. -/
theorem run_store (L : Lens c Held M) {r : Rect s} {w : r.shape.Idx → Val e} {hx : (M.access r).Stores Finset.univ}
    {hm : Finset.univ = Finset.univ ∨ ∀ a, r.stride a = 1} {Φ : PUnit → St → Prop}
    (h : Φ ⟨⟩ (L.set (r.overlay (L.get σ) w) σ)) : Runs defs₀ c Held (Prog.lift (.store M r w Finset.univ hx hm)) σ Φ := by
  unfold Runs
  show _ ⊢ wp _ _ _ (Prog.op (TpuEff.store (nD := nD) (τ := τ) (Λ := Λ₀) (p := .tc) M r w Finset.univ hx hm) Prog.ret) _
  refine (L.out σ).trans ?_
  unfold owns
  iintro ⟨⟨%f, %hf, H⟩, Hk⟩
  iapply (wp_store (𝒱 := Variants.none) (c := (c : Thread nD τ)) (bd := none) (E := Set.univ) (m := M) (r := r) (w := w) (hx := hx) (hm := hm) (S := M.view.set) (f := f)
    (by
      rw [View.setOn_univ, View.set_slice]
      exact Finset.map_subset_map.mpr (Finset.subset_univ _))) $$ H
  iintro H
  rw [wp_ret]
  imodintro
  iexists (L.set (r.overlay (L.get σ) w) σ)
  isplitr
  · ipureintro; exact h
  · iapply Hk
    iexists _
    isplitr
    swap
    · iexact H
    · ipureintro
      rw [← hf]
      exact read_store M.view r f w

/-- A loop by an invariant on the carried value and the record. -/
theorem run_loop {w : Nat} {ρ : Type} (l : Scf.Loop w) (hok : l.OK) (init : ρ) (body : Fin l.trips → ρ → Prog (TpuEff nD τ sig Val Λ₀ .tc) ρ)
    (I : Nat → ρ → St → Prop) (h0 : I 0 init σ)
    (hb : ∀ (k : Fin l.trips) a σ', I k.val a σ' → Runs defs₀ c Held (body k a) σ' (I (k.val + 1))) :
    Runs defs₀ c Held (Scf.Loop.for l hok init body) σ (I l.trips) := by
  unfold Runs
  have hw := Scf.wp_for frame (wpE (Ix := Unit) (Name := ℕ) (U := UR sig nD τ) (Lvl := ℕ) defs₀ Variants.none (c : Thread nD τ) none) Set.univ l.lb l.ub l.st hok init body
    (fun k a => iprop(∃ σ', ⌜I k a σ'⌝ ∗ Held σ')) (fun k a => by
      iintro ⟨%σ', %h', H⟩
      have h2 := hb k a σ' h'
      unfold Runs at h2
      iapply h2
      iexact H) (Q := fun a => iprop(∃ σ', ⌜I l.trips a σ'⌝ ∗ Held σ'))
  refine BIBase.Entails.trans ?_ hw
  iintro H
  isplitl [H]
  · iexists σ; isplitr
    · ipureintro; exact h0
    · iexact H
  · iintro %a H
    iexact H

/-- A program that does nothing keeps the buffers. -/
theorem keeps_ret {a : α} : Keeps defs₀ c Held (pure a) := fun _ => run_ret trivial
/-- One after another, too. -/
theorem keeps_bind {p : Prog (TpuEff nD τ sig Val Λ₀ .tc) α} {k : α → Prog (TpuEff nD τ sig Val Λ₀ .tc) β}
    (h : Keeps defs₀ c Held p) (hk : ∀ a, Keeps defs₀ c Held (k a)) : Keeps defs₀ c Held (p >>= k) := fun σ => run_bind (h σ) fun a σ' _ => hk a σ'
/-- A load, too. -/
theorem keeps_load (L : Lens c Held M) {r : LoadRect s} {hl : M.view.LoadsAt r} : Keeps defs₀ c Held (Prog.lift (.load M r hl)) := fun _ => run_load L trivial
/-- A store, too. -/
theorem keeps_store (L : Lens c Held M) {r : Rect s} {w : r.shape.Idx → Val e} {hx : (M.access r).Stores Finset.univ}
    {hm : Finset.univ = Finset.univ ∨ ∀ a, r.stride a = 1} : Keeps defs₀ c Held (Prog.lift (.store M r w Finset.univ hx hm)) := fun _ => run_store L trivial
/-- And a loop whose body does. -/
theorem keeps_loop {w : Nat} {ρ : Type} {l : Scf.Loop w} {hok : l.OK} {init : ρ} {body : Fin l.trips → ρ → Prog (TpuEff nD τ sig Val Λ₀ .tc) ρ}
    (hb : ∀ k a, Keeps defs₀ c Held (body k a)) : Keeps defs₀ c Held (Scf.Loop.for l hok init body) :=
  fun _ => run_loop l hok init body (fun _ _ _ => True) trivial fun k a σ' _ => hb k a σ'

/-! ## Families of memrefs, built one memref at a time -/

/-- The empty family. -/
def Nothing : Unit → sProp (MT nD τ sig Unit Val ℕ (UR sig nD τ) ℕ) := fun _ => iprop(emp)

/-- The family `Held` and the memref `M`, whose contents come first in the record. -/
def Also (c : Dev nD) (M : Memref sig .tc .vmem s e) (Held : St → sProp (MT nD τ sig Unit Val ℕ (UR sig nD τ) ℕ)) : (s.Idx → Val e) × St → sProp (MT nD τ sig Unit Val ℕ (UR sig nD τ) ℕ) :=
  fun σ => iprop(owns (c : Thread nD τ) M fullShare σ.1 ∗ Held σ.2)

/-- The memref added last. -/
def Lens.head (c : Dev nD) (M : Memref sig .tc .vmem s e) (Held : St → sProp (MT nD τ sig Unit Val ℕ (UR sig nD τ) ℕ)) : Lens c (Also c M Held) M where
  get σ := σ.1
  set X σ := (X, σ.2)
  set_get _ := rfl
  out σ := by
    unfold Also
    iintro ⟨H, HR⟩
    isplitl [H]
    · iexact H
    · iintro %X H
      isplitl [H]
      · iexact H
      · iexact HR

/-- A memref of the family, after one more is added. -/
def Lens.tail {s' : Shape} {e' : EltTy} {M' : Memref sig .tc .vmem s' e'} (L : Lens c Held M) : Lens c (Also c M' Held) M where
  get σ := L.get σ.2
  set X σ := (σ.1, L.set X σ.2)
  set_get σ := by rw [L.set_get]
  out σ := by
    unfold Also
    iintro ⟨H, HR⟩
    ihave HR' := (L.out σ.2) $$ HR
    icases HR' with ⟨HM, Hk⟩
    isplitl [HM]
    · iexact HM
    · iintro %X HM
      isplitl [H]
      · iexact H
      · iapply Hk $$ HM

/-- A memref at some contents and a family at some record are the larger family at some record. -/
theorem also_some : (iprop((∃ X, owns (c : Thread nD τ) M fullShare X) ∗ (∃ σ, Held σ)) : sProp (MT nD τ sig Unit Val ℕ (UR sig nD τ) ℕ)) ⊢ iprop(∃ σ, Also c M Held σ) := by
  iintro ⟨⟨%X, H⟩, ⟨%σ, HR⟩⟩
  iexists (X, σ)
  unfold Also
  isplitl [H]
  · iexact H
  · iexact HR

/-- A family at some record gives up its first memref at some contents. -/
theorem some_also : (iprop(∃ σ, Also c M Held σ) : sProp (MT nD τ sig Unit Val ℕ (UR sig nD τ) ℕ)) ⊢ iprop((∃ X, owns (c : Thread nD τ) M fullShare X) ∗ (∃ σ, Held σ)) := by
  iintro ⟨%σ, H⟩
  unfold Also
  icases H with ⟨H, HR⟩
  isplitl [H]
  · iexists σ.1; iexact H
  · iexists σ.2; iexact HR

/-- A program that runs from every record that meets `Pre` to one that meets `Post`, whatever else is held. -/
theorem runs_frame {p : Prog (TpuEff nD τ sig Val Λ₀ .tc) α} {Pre Post : St → Prop} (h : ∀ σ, Pre σ → Runs defs₀ c Held p σ fun _ => Post) (R : sProp (MT nD τ sig Unit Val ℕ (UR sig nD τ) ℕ)) :
    iprop((∃ σ, ⌜Pre σ⌝ ∗ Held σ) ∗ R) ⊢ wp frame (wpE (Ix := Unit) (Name := ℕ) (U := UR sig nD τ) (Lvl := ℕ) defs₀ Variants.none (c : Thread nD τ) none) Set.univ p
      (fun _ => iprop((∃ σ, ⌜Post σ⌝ ∗ Held σ) ∗ R)) := by
  refine BIBase.Entails.trans ?_ (wp_frame_r (p := p) frame (wpE (Ix := Unit) (Name := ℕ) (U := UR sig nD τ) (Lvl := ℕ) defs₀ Variants.none (c : Thread nD τ) none) Set.univ
    (Q := fun _ => iprop(∃ σ', ⌜Post σ'⌝ ∗ Held σ')) (R := R))
  iintro ⟨⟨%σ, %hp, H⟩, HR⟩
  isplitl [H]
  · have h' := h σ hp
    unfold Runs at h'
    iapply h'
    iexact H
  · iexact HR

/-- A program that keeps the family runs from it at some record to it at some record, whatever else is held. -/
theorem keeps_frame {p : Prog (TpuEff nD τ sig Val Λ₀ .tc) α} (h : Keeps defs₀ c Held p) (R : sProp (MT nD τ sig Unit Val ℕ (UR sig nD τ) ℕ)) :
    iprop((∃ σ, Held σ) ∗ R) ⊢ wp frame (wpE (Ix := Unit) (Name := ℕ) (U := UR sig nD τ) (Lvl := ℕ) defs₀ Variants.none (c : Thread nD τ) none) Set.univ p
      (fun _ => iprop((∃ σ, Held σ) ∗ R)) := by
  refine BIBase.Entails.trans ?_ (BIBase.Entails.trans (wp_frame_r (p := p) frame (wpE (Ix := Unit) (Name := ℕ) (U := UR sig nD τ) (Lvl := ℕ) defs₀ Variants.none (c : Thread nD τ) none) Set.univ
    (Q := fun a => iprop(∃ σ', ⌜True⌝ ∗ Held σ')) (R := R)) (wp_mono _ _ _ fun a => ?_))
  · iintro ⟨⟨%σ, H⟩, HR⟩
    isplitl [H]
    · have h' := h σ
      unfold Runs at h'
      iapply h'
      iexact H
    · iexact HR
  · iintro ⟨⟨%σ, -, H⟩, HR⟩
    isplitl [H]
    · iexists σ; iexact H
    · iexact HR

end Cert.Hoare

end
-- ==== Proof.KernelStays.lean ====
/-
  The kernel's body stays inside its memrefs: at any contents of its eleven windows and four scratch arrays it runs to its end and
  leaves them held, at some contents. The body is cut into four parts, each a sequence of loads and stores.
-/
module

public import proofs.«01_k».proof.Kernel
public import proofs.«01_k».proof.Proof.Hoare

@[expose] public section

noncomputable section

namespace Cert.Kernel.Stays

open Idealize.ShloMosaic Idealize.ShloMosaic.TcCoe
open Idealize.SL Idealize.SL.RA Idealize.SL.BI Idealize.SL.Sem
open Idealize.ShloMosaic.Rounds
open Cert.Hoare

variable {F : FTy → Type} [BitOps F] [Facts] {defs : Defs nD τ sig (Elt F) Λ₀} {c : Dev nD} {St : Type} {Held : St → sProp (MT nD τ sig Unit (Elt F) ℕ (UR sig nD τ) ℕ)}

variable {arg2 : Memref sig .tc .vmem S16x200x128 .bf16} {harg2 : arg2.IsWhole}
  {arg3 : Memref sig .tc .vmem S16x200x128 .bf16} {harg3 : arg3.IsWhole}
  {arg4 : Memref sig .tc .vmem S1x192x2048 .fp8e4m3} {harg4 : arg4.IsWhole}
  {arg5 : Memref sig .tc .vmem S24x128 .f32} {harg5 : arg5.IsWhole}
  {arg6 : Memref sig .tc .vmem S1x192x2048 .fp8e4m3} {harg6 : arg6.IsWhole}
  {arg7 : Memref sig .tc .vmem S24x128 .f32} {harg7 : arg7.IsWhole}
  {arg8 : Memref sig .tc .vmem S16x200x128 .bf16} {harg8 : arg8.IsWhole}
  {arg9 : Memref sig .tc .vmem S1x192x2048 .fp8e4m3} {harg9 : arg9.IsWhole}
  {arg10 : Memref sig .tc .vmem S24x128 .f32} {harg10 : arg10.IsWhole}
  {arg11 : Memref sig .tc .vmem S1x192x2048 .fp8e4m3} {harg11 : arg11.IsWhole}
  {arg12 : Memref sig .tc .vmem S24x128 .f32} {harg12 : arg12.IsWhole}
  {arg13 : Memref sig .tc .vmem S1536x128 .f32} {harg13 : arg13.IsWhole}
  {arg14 : Memref sig .tc .vmem S1536x128 .f32} {harg14 : arg14.IsWhole}
  {arg15 : Memref sig .tc .vmem S1536x128 .f32} {harg15 : arg15.IsWhole}
  {arg16 : Memref sig .tc .vmem S1536x128 .f32} {harg16 : arg16.IsWhole}

set_option maxRecDepth 10000
set_option maxHeartbeats 4000000

/-- Part 1 of the loop's body stays inside the memrefs. -/
theorem keeps_part1 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (c0_i32_2 : BitVec 32) (c1_i32 : BitVec 32) (k0_t1 : Fin k0_t1_loop.trips) :
    Keeps defs c Held (k0_part215 i arg2 harg2 arg3 harg3 arg4 harg4 arg5 harg5 arg6 harg6 arg7 harg7 arg8 harg8 arg9 harg9 arg10 harg10 arg11 harg11 arg12 harg12 arg13 harg13 arg14 harg14 arg15 harg15 arg16 harg16 c0_i32_2 c1_i32 k0_t1) := by
  unfold k0_part215
  repeat' first
    | with_reducible exact keeps_ret
    | with_reducible exact keeps_load (by assumption)
    | with_reducible exact keeps_store (by assumption)
    | with_reducible refine keeps_bind ?_ fun _ => ?_
    | refine keeps_bind ?_ fun _ => ?_

/-- Part 2 of the loop's body stays inside the memrefs. -/
theorem keeps_part2 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (arg0 : BitVec 32) (arg1 : BitVec 32) (v7 : IVec S32x128 32) (k0_t1 : Fin k0_t1_loop.trips) (arg17 : BitVec 32) (v2192 : IVec S8x128 32) (c16_i32_1103 : BitVec 32) :
    Keeps defs c Held (k0_part216 i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v7 k0_t1 arg17 v2192 c16_i32_1103) := by
  unfold k0_part216
  repeat' first
    | with_reducible exact keeps_ret
    | with_reducible exact keeps_load (by assumption)
    | with_reducible exact keeps_store (by assumption)
    | with_reducible refine keeps_bind ?_ fun _ => ?_
    | refine keeps_bind ?_ fun _ => ?_

/-- Part 3 of the loop's body stays inside the memrefs. -/
theorem keeps_part3 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (arg0 : BitVec 32) (arg1 : BitVec 32) (v7 : IVec S32x128 32) (k0_t1 : Fin k0_t1_loop.trips) (arg17 : BitVec 32) (v3332 : BitVec 32) (v4381 : FVec F S32x128 .f32) (cst_2186 : F .f32) (v4464 : FVec F S32x128 .f32) :
    Keeps defs c Held (k0_part217 i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v7 k0_t1 arg17 v3332 v4381 cst_2186 v4464) := by
  unfold k0_part217
  repeat' first
    | with_reducible exact keeps_ret
    | with_reducible exact keeps_load (by assumption)
    | with_reducible exact keeps_store (by assumption)
    | with_reducible refine keeps_bind ?_ fun _ => ?_
    | refine keeps_bind ?_ fun _ => ?_

/-- Part 4 of the loop's body stays inside the memrefs. -/
theorem keeps_part4 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (k0_t1 : Fin k0_t1_loop.trips) (v5883 : IVec S32x128 1) (v5902 : BitVec 32) (v5922 : BitVec 32) (v6734 : FVec F S32x128 .f32) (v6761 : FVec F S32x128 .f32) :
    Keeps defs c Held (k0_part218 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 v5883 v5902 v5922 v6734 v6761) := by
  unfold k0_part218
  repeat' first
    | with_reducible exact keeps_ret
    | with_reducible exact keeps_load (by assumption)
    | with_reducible exact keeps_store (by assumption)
    | with_reducible refine keeps_bind ?_ fun _ => ?_
    | refine keeps_bind ?_ fun _ => ?_

/-- The whole body stays inside the memrefs. -/
theorem keeps_body (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) : Keeps defs c Held (cc0_adamw_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold cc0_adamw_fp8
  extract_lets
  repeat' first
    | with_reducible exact keeps_ret
    | with_reducible exact keeps_load (by assumption)
    | with_reducible exact keeps_store (by assumption)
    | with_reducible refine keeps_bind ?_ fun _ => ?_
    | with_reducible exact keeps_part1 L2 L3 L4 L5 L6 L7 L8 L9 L10 L11 L12 L13 L14 L15 L16 ..
    | with_reducible exact keeps_part2 L2 L3 L4 L5 L6 L7 L8 L9 L10 L11 L12 L13 L14 L15 L16 ..
    | with_reducible exact keeps_part3 L2 L3 L4 L5 L6 L7 L8 L9 L10 L11 L12 L13 L14 L15 L16 ..
    | with_reducible exact keeps_part4 L2 L3 L4 L5 L6 L7 L8 L9 L10 L11 L12 L13 L14 L15 L16 ..
    | with_reducible refine keeps_loop fun _ _ => ?_
    | split

end Cert.Kernel.Stays

end
-- ==== Proof.KernelRun.lean ====
/-
  The run of @main of `Kernel`: it ends, with no fault, its argument arrays as they were and every semaphore counter at zero. Nothing is
  said of the results.
-/
module

public import proofs.«01_k».proof.Proof.Gen.Kernel.Frame
public import proofs.«01_k».proof.Proof.KernelStays

@[expose] public section

set_option maxRecDepth 16384

noncomputable section

namespace Cert.Kernel.Stays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Hoare Cert.Kernel.Gen

variable {F : FTy → Type} [BitOps F] (m : (ℓ : Loc nD τ sig) → Buf (Elt F) ℓ) (ρ : Dev nD → PrngReg)

/-- Every window's contents forgotten: nothing here reads what the kernel leaves. -/
def forgets : Fin cfg0.W → Bool := fun _ => true

/-- The proof data: the arrays as the region finds them, what the body leaves unnamed. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- What the arrays hold when the grid starts. -/
theorem A_eqF (c : Dev nD) (w : Fin cfg0.W) : (datsF m 0 c).A w = V m c (Pipeline.arrRef spec0 w) := by dsimp only [datsF]

/-- The eleven windows' staging memrefs and the four scratch arrays, as one family. -/
def family (c : Dev nD) (t : Fin cfg0.N) := Also c (st0_0 t) (Also c (st0_1 t) (Also c (st0_2 t) (Also c (st0_3 t) (Also c (st0_4 t) (Also c (st0_5 t) (Also c (st0_6 t) (Also c (st0_7 t) (Also c (st0_8 t) (Also c (st0_9 t) (Also c (st0_10 t) (Also c (Memref.whole cc0_scratch0) (Also c (Memref.whole cc0_scratch1) (Also c (Memref.whole cc0_scratch2) (Also c (Memref.whole cc0_scratch3) (Nothing (nD := nD) (τ := τ) (sig := sig) (Val := Elt F))))))))))))))))

/-- The body keeps its buffers at every point. -/
theorem keeps_point (c : Dev nD) (t : Fin cfg0.N) : Keeps (defs₀ (F := F)) c (family c t) (bodyAt0 t) :=
  keeps_body ((Lens.head ..)) ((Lens.head ..).tail) ((Lens.head ..).tail.tail) ((Lens.head ..).tail.tail.tail) ((Lens.head ..).tail.tail.tail.tail) ((Lens.head ..).tail.tail.tail.tail.tail) ((Lens.head ..).tail.tail.tail.tail.tail.tail) ((Lens.head ..).tail.tail.tail.tail.tail.tail.tail) ((Lens.head ..).tail.tail.tail.tail.tail.tail.tail.tail) ((Lens.head ..).tail.tail.tail.tail.tail.tail.tail.tail.tail) ((Lens.head ..).tail.tail.tail.tail.tail.tail.tail.tail.tail.tail) ((Lens.head ..).tail.tail.tail.tail.tail.tail.tail.tail.tail.tail.tail) ((Lens.head ..).tail.tail.tail.tail.tail.tail.tail.tail.tail.tail.tail.tail) ((Lens.head ..).tail.tail.tail.tail.tail.tail.tail.tail.tail.tail.tail.tail.tail) ((Lens.head ..).tail.tail.tail.tail.tail.tail.tail.tail.tail.tail.tail.tail.tail.tail) _

/-- What the body is called with at a point. -/
def bodyPreF (c : Dev nD) (t : Fin cfg0.N) : sProp (MT nD τ sig Unit (Elt F) ℕ (UR sig nD τ) ℕ) :=
  iprop((datsF m 0 c).Φ t.castSucc ∗ (datsF m 0 c).owesAt () t.castSucc
    ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))
/-- What it returns. -/
def bodyPostF (c : Dev nD) (t : Fin cfg0.N) : sProp (MT nD τ sig Unit (Elt F) ℕ (UR sig nD τ) ℕ) :=
  iprop((datsF m 0 c).Φ t.succ ∗ (datsF m 0 c).owesAt () t.succ
    ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- Between points the four working arrays are held, with any contents. -/
theorem phi_eq (c : Dev nD) (t : Fin (cfg0.N + 1)) : (datsF m 0 c).Φ t = iprop(
    ((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f)) ∗ ∃ r, prngReg c r) := by
  simp only [owns_whole]
  rw [← scopedRest0_eq]
  rfl

/-- What the body is called with, the family put together. -/
theorem to_family (c : Dev nD) (t : Fin cfg0.N) : bodyPreF m c t ⊢
    iprop((∃ σ, family c t σ) ∗ ((∃ r, prngReg c r) ∗ (datsF m 0 c).owesAt () t.castSucc)) := by
  unfold bodyPreF family
  rw [phi_eq]
  iintro ⟨⟨⟨S0, S1, S2, S3⟩, HP⟩, HO, H0, H1, H2, H3, H4, H5, H6, H7, H8, H9, H10⟩
  isplitr [HP HO]
  swap
  · isplitl [HP]
    · iexact HP
    · iexact HO
  iapply also_some; isplitl [H0]
  · iexact H0
  iapply also_some; isplitl [H1]
  · iexact H1
  iapply also_some; isplitl [H2]
  · iexact H2
  iapply also_some; isplitl [H3]
  · iexact H3
  iapply also_some; isplitl [H4]
  · iexact H4
  iapply also_some; isplitl [H5]
  · iexact H5
  iapply also_some; isplitl [H6]
  · iexact H6
  iapply also_some; isplitl [H7]
  · iexact H7
  iapply also_some; isplitl [H8]
  · iexact H8
  iapply also_some; isplitl [H9]
  · iexact H9
  iapply also_some; isplitl [H10]
  · iexact H10
  iapply also_some; isplitl [S0]
  · iexact S0
  iapply also_some; isplitl [S1]
  · iexact S1
  iapply also_some; isplitl [S2]
  · iexact S2
  iapply also_some; isplitl [S3]
  · iexact S3
  iexists ()
  unfold Nothing
  iempintro

/-- The family parted again. -/
theorem of_family (c : Dev nD) (t : Fin cfg0.N) :
    iprop((∃ σ, family c t σ) ∗ ((∃ r, prngReg c r) ∗ (datsF m 0 c).owesAt () t.castSucc)) ⊢ bodyPostF m c t := by
  unfold bodyPostF family
  rw [phi_eq]
  iintro ⟨H, HP, HO⟩
  ihave H' := some_also $$ H; icases H' with ⟨H0, H⟩
  ihave H' := some_also $$ H; icases H' with ⟨H1, H⟩
  ihave H' := some_also $$ H; icases H' with ⟨H2, H⟩
  ihave H' := some_also $$ H; icases H' with ⟨H3, H⟩
  ihave H' := some_also $$ H; icases H' with ⟨H4, H⟩
  ihave H' := some_also $$ H; icases H' with ⟨H5, H⟩
  ihave H' := some_also $$ H; icases H' with ⟨H6, H⟩
  ihave H' := some_also $$ H; icases H' with ⟨H7, H⟩
  ihave H' := some_also $$ H; icases H' with ⟨H8, H⟩
  ihave H' := some_also $$ H; icases H' with ⟨H9, H⟩
  ihave H' := some_also $$ H; icases H' with ⟨H10, H⟩
  ihave H' := some_also $$ H; icases H' with ⟨S0, H⟩
  ihave H' := some_also $$ H; icases H' with ⟨S1, H⟩
  ihave H' := some_also $$ H; icases H' with ⟨S2, H⟩
  ihave H' := some_also $$ H; icases H' with ⟨S3, H⟩
  isplitl [S0 S1 S2 S3 HP]
  · isplitr [HP]
    · isplitl [S0]
      · iexact S0
      isplitl [S1]
      · iexact S1
      isplitl [S2]
      · iexact S2
      iexact S3
    · iexact HP
  isplitl [HO]
  · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

/-- The body at a point: the family gathered, the body run, the family parted. -/
theorem sound_bodyF (c : Dev nD) (t : Fin cfg0.N) :
    bodyPreF m c t ⊢ wp frame (wpE (defs₀ (F := F)) Variants.none c none) Set.univ (bodyAt0 t) (fun _ => bodyPostF m c t) :=
  BIBase.Entails.trans (to_family m c t) (BIBase.Entails.trans (keeps_frame (keeps_point c t) _) (wp_mono _ _ _ fun _ => of_family m c t))

/-- The body table's row at the point is the body as `bodyAt0` spells it. -/
theorem defs₀_rowF (t : Fin cfg0.N) : defs₀ (F := F) .tc cfg0.body (cfg0.bodyArgs t (cfg0.slots t)) = bodyAt0 t := by
  unfold defs₀; rw [Defs.onTc_tc]

/-- The library's body obligation, every window forgotten. -/
theorem body_obligationF (c : Dev nD) :
    BodyObligationLoose (datsF (F := F) m 0 c) (defs₀ (F := F)) Variants.none () Set.univ forgets := fun t => by
  rw [bigSep_W0, bigSep_W0, defs₀_rowF]
  exact triple_restated (sound_bodyF m c t) rfl .rfl fun _ => .rfl

/-- The buffers that the lines after the kernel write. -/
def tailBufs : Finset (Ref sig .tc) := {main_v13, main_v14, main_v15, main_v16, main_v17, main_v18, main_v19, main_v20, main_v21}

/-- The lines after the grid write the buffers after it only. -/
theorem tail_writes : ∀ ops ∈ [hostOps1 (F := F)], ∀ op ∈ ops, ∀ b : Ref sig .tc, Proc.devRef (τ := τ) .tc b ∈ op.writes → b ∈ tailBufs := by
  intro ops hops op hop b hb
  rw [List.mem_singleton] at hops
  subst hops
  simp only [hostOps1, List.mem_cons, List.not_mem_nil, or_false] at hop
  rcases hop with rfl | rfl | rfl | rfl | rfl | rfl | rfl | rfl | rfl <;>
    (obtain rfl := Proc.devRef_injective (τ := τ) _ (Finset.mem_singleton.mp hb); decide)

set_option backward.isDefEq.respectTransparency.types false in
/-- Every fair execution of @main ends, with the arrays that are no result of it as they were and every semaphore counter at zero. -/
theorem run_mainF :
    θ_run defs (onTc (τ := τ) (main (F := F))) (s₀ m ρ)
      (fun r => Pipeline.RDat.FramePostR (cfgs 0) (fun c => (datsF m 0 c).toRForget forgets) tailBufs (V m) r ∧ r.2.sem = fun _ => 0) :=
  Pipeline.θ_run_frame_around_T_forget (Q' := _) cfgs (datsF m) (0 : Fin 1) launch0 defs₀ Variants.none forgets tailBufs m ρ main
    (hbody := body_obligationF m) (hshare := fun c => (datsF m 0 c).share_full fun _ => rfl)
    (howed := fun _ _ => rfl) (V₀ := V0 m) (opss := [hostOps1]) sfx_sub sfx_fresh sfx_keeps tail_writes (hmain m Variants.none)
    (hA := A_eqF m) (hΦ := fun _ _ => rfl) (hQ' := fun _ h => h)

/-- The frame: the argument arrays are as they were, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     (h.1.arr_in c 2 rfl).trans ((A_eqF m c 2).trans (V_main_arg2 m c)),
     ((h.1 c).2 main_arg3 (Finset.mem_sdiff.mpr ⟨Pipeline.mem_restRefs_of main_arg3 (by decide) (by decide), by decide⟩)).trans (V_main_arg3 m c),
     (h.1.arr_in c 4 rfl).trans ((A_eqF m c 4).trans (V_main_arg4 m c)),
     ((h.1 c).2 main_arg5 (Finset.mem_sdiff.mpr ⟨Pipeline.mem_restRefs_of main_arg5 (by decide) (by decide), by decide⟩)).trans (V_main_arg5 m c)⟩, h.2⟩) (run_mainF m ρ)

end Cert.Kernel.Stays

end
-- ==== Proof.KernelIdealStays.lean ====
/-
  The kernel's body stays inside its memrefs: at any contents of its eleven windows and four scratch arrays it runs to its end and
  leaves them held, at some contents. The body is cut into four parts, each a sequence of loads and stores.
-/
module

public import proofs.«01_k».proof.KernelIdeal
public import proofs.«01_k».proof.Proof.Hoare

@[expose] public section

noncomputable section

namespace Cert.KernelIdeal.Stays

open Idealize.ShloMosaic Idealize.ShloMosaic.TcCoe
open Idealize.SL Idealize.SL.RA Idealize.SL.BI Idealize.SL.Sem
open Idealize.ShloMosaic.Rounds
open Cert.Hoare

variable {F : FTy → Type} [FloatOps F] [Facts] {defs : Defs nD τ sig (Elt F) Λ₀} {c : Dev nD} {St : Type} {Held : St → sProp (MT nD τ sig Unit (Elt F) ℕ (UR sig nD τ) ℕ)}

variable {arg2 : Memref sig .tc .vmem S16x200x128 .bf16} {harg2 : arg2.IsWhole}
  {arg3 : Memref sig .tc .vmem S16x200x128 .bf16} {harg3 : arg3.IsWhole}
  {arg4 : Memref sig .tc .vmem S1x192x2048 .fp8e4m3} {harg4 : arg4.IsWhole}
  {arg5 : Memref sig .tc .vmem S24x128 .f32} {harg5 : arg5.IsWhole}
  {arg6 : Memref sig .tc .vmem S1x192x2048 .fp8e4m3} {harg6 : arg6.IsWhole}
  {arg7 : Memref sig .tc .vmem S24x128 .f32} {harg7 : arg7.IsWhole}
  {arg8 : Memref sig .tc .vmem S16x200x128 .bf16} {harg8 : arg8.IsWhole}
  {arg9 : Memref sig .tc .vmem S1x192x2048 .fp8e4m3} {harg9 : arg9.IsWhole}
  {arg10 : Memref sig .tc .vmem S24x128 .f32} {harg10 : arg10.IsWhole}
  {arg11 : Memref sig .tc .vmem S1x192x2048 .fp8e4m3} {harg11 : arg11.IsWhole}
  {arg12 : Memref sig .tc .vmem S24x128 .f32} {harg12 : arg12.IsWhole}
  {arg13 : Memref sig .tc .vmem S1536x128 .f32} {harg13 : arg13.IsWhole}
  {arg14 : Memref sig .tc .vmem S1536x128 .f32} {harg14 : arg14.IsWhole}
  {arg15 : Memref sig .tc .vmem S1536x128 .f32} {harg15 : arg15.IsWhole}
  {arg16 : Memref sig .tc .vmem S1536x128 .f32} {harg16 : arg16.IsWhole}

set_option maxRecDepth 10000
set_option maxHeartbeats 4000000

/-- Part 1 of the loop's body stays inside the memrefs. -/
theorem keeps_part1 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (c0_i32_2 : BitVec 32) (c1_i32 : BitVec 32) (k0_t1 : Fin k0_t1_loop.trips) :
    Keeps defs c Held (k0_part218 i arg2 harg2 arg3 harg3 arg4 harg4 arg5 harg5 arg6 harg6 arg7 harg7 arg8 harg8 arg9 harg9 arg10 harg10 arg11 harg11 arg12 harg12 arg13 harg13 arg14 harg14 arg15 harg15 arg16 harg16 c0_i32_2 c1_i32 k0_t1) := by
  unfold k0_part218
  repeat' first
    | with_reducible exact keeps_ret
    | with_reducible exact keeps_load (by assumption)
    | with_reducible exact keeps_store (by assumption)
    | with_reducible refine keeps_bind ?_ fun _ => ?_
    | refine keeps_bind ?_ fun _ => ?_

/-- Part 2 of the loop's body stays inside the memrefs. -/
theorem keeps_part2 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (arg0 : BitVec 32) (arg1 : BitVec 32) (v7 : IVec S32x128 32) (k0_t1 : Fin k0_t1_loop.trips) (arg17 : BitVec 32) (v2191_hi : FVec F S8x128 .bf16) (v2192_lo : FVec F S8x128 .bf16) :
    Keeps defs c Held (k0_part219 i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v7 k0_t1 arg17 v2191_hi v2192_lo) := by
  unfold k0_part219
  repeat' first
    | with_reducible exact keeps_ret
    | with_reducible exact keeps_load (by assumption)
    | with_reducible exact keeps_store (by assumption)
    | with_reducible refine keeps_bind ?_ fun _ => ?_
    | refine keeps_bind ?_ fun _ => ?_

/-- Part 3 of the loop's body stays inside the memrefs. -/
theorem keeps_part3 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (arg0 : BitVec 32) (arg1 : BitVec 32) (v7 : IVec S32x128 32) (k0_t1 : Fin k0_t1_loop.trips) (arg17 : BitVec 32) (v3332 : BitVec 32) (v4381 : FVec F S32x128 .f32) (cst_2186 : F .f32) (v4464 : FVec F S32x128 .f32) :
    Keeps defs c Held (k0_part220 i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 arg1 v7 k0_t1 arg17 v3332 v4381 cst_2186 v4464) := by
  unfold k0_part220
  repeat' first
    | with_reducible exact keeps_ret
    | with_reducible exact keeps_load (by assumption)
    | with_reducible exact keeps_store (by assumption)
    | with_reducible refine keeps_bind ?_ fun _ => ?_
    | refine keeps_bind ?_ fun _ => ?_

/-- Part 4 of the loop's body stays inside the memrefs. -/
theorem keeps_part4 (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) (k0_t1 : Fin k0_t1_loop.trips) (v5883 : IVec S32x128 1) (v5902 : BitVec 32) (v5922 : BitVec 32) (v6734 : FVec F S32x128 .f32) (v6761 : FVec F S32x128 .f32) :
    Keeps defs c Held (k0_part221 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 v5883 v5902 v5922 v6734 v6761) := by
  unfold k0_part221
  repeat' first
    | with_reducible exact keeps_ret
    | with_reducible exact keeps_load (by assumption)
    | with_reducible exact keeps_store (by assumption)
    | with_reducible refine keeps_bind ?_ fun _ => ?_
    | refine keeps_bind ?_ fun _ => ?_

/-- The whole body stays inside the memrefs. -/
theorem keeps_body (L2 : Lens c Held arg2) (L3 : Lens c Held arg3) (L4 : Lens c Held arg4) (L5 : Lens c Held arg5) (L6 : Lens c Held arg6)
  (L7 : Lens c Held arg7) (L8 : Lens c Held arg8) (L9 : Lens c Held arg9) (L10 : Lens c Held arg10) (L11 : Lens c Held arg11)
  (L12 : Lens c Held arg12) (L13 : Lens c Held arg13) (L14 : Lens c Held arg14) (L15 : Lens c Held arg15) (L16 : Lens c Held arg16)
    (i : grid0.Coords) : Keeps defs c Held (cc0_adamw_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold cc0_adamw_fp8
  extract_lets
  repeat' first
    | with_reducible exact keeps_ret
    | with_reducible exact keeps_load (by assumption)
    | with_reducible exact keeps_store (by assumption)
    | with_reducible refine keeps_bind ?_ fun _ => ?_
    | with_reducible exact keeps_part1 L2 L3 L4 L5 L6 L7 L8 L9 L10 L11 L12 L13 L14 L15 L16 ..
    | with_reducible exact keeps_part2 L2 L3 L4 L5 L6 L7 L8 L9 L10 L11 L12 L13 L14 L15 L16 ..
    | with_reducible exact keeps_part3 L2 L3 L4 L5 L6 L7 L8 L9 L10 L11 L12 L13 L14 L15 L16 ..
    | with_reducible exact keeps_part4 L2 L3 L4 L5 L6 L7 L8 L9 L10 L11 L12 L13 L14 L15 L16 ..
    | with_reducible refine keeps_loop fun _ _ => ?_
    | split

end Cert.KernelIdeal.Stays

end
-- ==== Proof.KernelIdealRun.lean ====
/-
  The run of @main of `KernelIdeal`: it ends, with no fault, its argument arrays as they were and every semaphore counter at zero. Nothing is
  said of the results.
-/
module

public import proofs.«01_k».proof.Proof.Gen.KernelIdeal.Frame
public import proofs.«01_k».proof.Proof.KernelIdealStays

@[expose] public section

set_option maxRecDepth 16384

noncomputable section

namespace Cert.KernelIdeal.Stays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Hoare Cert.KernelIdeal.Gen

variable {F : FTy → Type} [FloatOps F] (m : (ℓ : Loc nD τ sig) → Buf (Elt F) ℓ) (ρ : Dev nD → PrngReg)

/-- Every window's contents forgotten: nothing here reads what the kernel leaves. -/
def forgets : Fin cfg0.W → Bool := fun _ => true

/-- The proof data: the arrays as the region finds them, what the body leaves unnamed. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- What the arrays hold when the grid starts. -/
theorem A_eqF (c : Dev nD) (w : Fin cfg0.W) : (datsF m 0 c).A w = V m c (Pipeline.arrRef spec0 w) := by dsimp only [datsF]

/-- The eleven windows' staging memrefs and the four scratch arrays, as one family. -/
def family (c : Dev nD) (t : Fin cfg0.N) := Also c (st0_0 t) (Also c (st0_1 t) (Also c (st0_2 t) (Also c (st0_3 t) (Also c (st0_4 t) (Also c (st0_5 t) (Also c (st0_6 t) (Also c (st0_7 t) (Also c (st0_8 t) (Also c (st0_9 t) (Also c (st0_10 t) (Also c (Memref.whole cc0_scratch0) (Also c (Memref.whole cc0_scratch1) (Also c (Memref.whole cc0_scratch2) (Also c (Memref.whole cc0_scratch3) (Nothing (nD := nD) (τ := τ) (sig := sig) (Val := Elt F))))))))))))))))

/-- The body keeps its buffers at every point. -/
theorem keeps_point (c : Dev nD) (t : Fin cfg0.N) : Keeps (defs₀ (F := F)) c (family c t) (bodyAt0 t) :=
  keeps_body ((Lens.head ..)) ((Lens.head ..).tail) ((Lens.head ..).tail.tail) ((Lens.head ..).tail.tail.tail) ((Lens.head ..).tail.tail.tail.tail) ((Lens.head ..).tail.tail.tail.tail.tail) ((Lens.head ..).tail.tail.tail.tail.tail.tail) ((Lens.head ..).tail.tail.tail.tail.tail.tail.tail) ((Lens.head ..).tail.tail.tail.tail.tail.tail.tail.tail) ((Lens.head ..).tail.tail.tail.tail.tail.tail.tail.tail.tail) ((Lens.head ..).tail.tail.tail.tail.tail.tail.tail.tail.tail.tail) ((Lens.head ..).tail.tail.tail.tail.tail.tail.tail.tail.tail.tail.tail) ((Lens.head ..).tail.tail.tail.tail.tail.tail.tail.tail.tail.tail.tail.tail) ((Lens.head ..).tail.tail.tail.tail.tail.tail.tail.tail.tail.tail.tail.tail.tail) ((Lens.head ..).tail.tail.tail.tail.tail.tail.tail.tail.tail.tail.tail.tail.tail.tail) _

/-- What the body is called with at a point. -/
def bodyPreF (c : Dev nD) (t : Fin cfg0.N) : sProp (MT nD τ sig Unit (Elt F) ℕ (UR sig nD τ) ℕ) :=
  iprop((datsF m 0 c).Φ t.castSucc ∗ (datsF m 0 c).owesAt () t.castSucc
    ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))
/-- What it returns. -/
def bodyPostF (c : Dev nD) (t : Fin cfg0.N) : sProp (MT nD τ sig Unit (Elt F) ℕ (UR sig nD τ) ℕ) :=
  iprop((datsF m 0 c).Φ t.succ ∗ (datsF m 0 c).owesAt () t.succ
    ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- Between points the four working arrays are held, with any contents. -/
theorem phi_eq (c : Dev nD) (t : Fin (cfg0.N + 1)) : (datsF m 0 c).Φ t = iprop(
    ((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f)) ∗ ∃ r, prngReg c r) := by
  simp only [owns_whole]
  rw [← scopedRest0_eq]
  rfl

/-- What the body is called with, the family put together. -/
theorem to_family (c : Dev nD) (t : Fin cfg0.N) : bodyPreF m c t ⊢
    iprop((∃ σ, family c t σ) ∗ ((∃ r, prngReg c r) ∗ (datsF m 0 c).owesAt () t.castSucc)) := by
  unfold bodyPreF family
  rw [phi_eq]
  iintro ⟨⟨⟨S0, S1, S2, S3⟩, HP⟩, HO, H0, H1, H2, H3, H4, H5, H6, H7, H8, H9, H10⟩
  isplitr [HP HO]
  swap
  · isplitl [HP]
    · iexact HP
    · iexact HO
  iapply also_some; isplitl [H0]
  · iexact H0
  iapply also_some; isplitl [H1]
  · iexact H1
  iapply also_some; isplitl [H2]
  · iexact H2
  iapply also_some; isplitl [H3]
  · iexact H3
  iapply also_some; isplitl [H4]
  · iexact H4
  iapply also_some; isplitl [H5]
  · iexact H5
  iapply also_some; isplitl [H6]
  · iexact H6
  iapply also_some; isplitl [H7]
  · iexact H7
  iapply also_some; isplitl [H8]
  · iexact H8
  iapply also_some; isplitl [H9]
  · iexact H9
  iapply also_some; isplitl [H10]
  · iexact H10
  iapply also_some; isplitl [S0]
  · iexact S0
  iapply also_some; isplitl [S1]
  · iexact S1
  iapply also_some; isplitl [S2]
  · iexact S2
  iapply also_some; isplitl [S3]
  · iexact S3
  iexists ()
  unfold Nothing
  iempintro

/-- The family parted again. -/
theorem of_family (c : Dev nD) (t : Fin cfg0.N) :
    iprop((∃ σ, family c t σ) ∗ ((∃ r, prngReg c r) ∗ (datsF m 0 c).owesAt () t.castSucc)) ⊢ bodyPostF m c t := by
  unfold bodyPostF family
  rw [phi_eq]
  iintro ⟨H, HP, HO⟩
  ihave H' := some_also $$ H; icases H' with ⟨H0, H⟩
  ihave H' := some_also $$ H; icases H' with ⟨H1, H⟩
  ihave H' := some_also $$ H; icases H' with ⟨H2, H⟩
  ihave H' := some_also $$ H; icases H' with ⟨H3, H⟩
  ihave H' := some_also $$ H; icases H' with ⟨H4, H⟩
  ihave H' := some_also $$ H; icases H' with ⟨H5, H⟩
  ihave H' := some_also $$ H; icases H' with ⟨H6, H⟩
  ihave H' := some_also $$ H; icases H' with ⟨H7, H⟩
  ihave H' := some_also $$ H; icases H' with ⟨H8, H⟩
  ihave H' := some_also $$ H; icases H' with ⟨H9, H⟩
  ihave H' := some_also $$ H; icases H' with ⟨H10, H⟩
  ihave H' := some_also $$ H; icases H' with ⟨S0, H⟩
  ihave H' := some_also $$ H; icases H' with ⟨S1, H⟩
  ihave H' := some_also $$ H; icases H' with ⟨S2, H⟩
  ihave H' := some_also $$ H; icases H' with ⟨S3, H⟩
  isplitl [S0 S1 S2 S3 HP]
  · isplitr [HP]
    · isplitl [S0]
      · iexact S0
      isplitl [S1]
      · iexact S1
      isplitl [S2]
      · iexact S2
      iexact S3
    · iexact HP
  isplitl [HO]
  · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

/-- The body at a point: the family gathered, the body run, the family parted. -/
theorem sound_bodyF (c : Dev nD) (t : Fin cfg0.N) :
    bodyPreF m c t ⊢ wp frame (wpE (defs₀ (F := F)) Variants.none c none) Set.univ (bodyAt0 t) (fun _ => bodyPostF m c t) :=
  BIBase.Entails.trans (to_family m c t) (BIBase.Entails.trans (keeps_frame (keeps_point c t) _) (wp_mono _ _ _ fun _ => of_family m c t))

/-- The body table's row at the point is the body as `bodyAt0` spells it. -/
theorem defs₀_rowF (t : Fin cfg0.N) : defs₀ (F := F) .tc cfg0.body (cfg0.bodyArgs t (cfg0.slots t)) = bodyAt0 t := by
  unfold defs₀; rw [Defs.onTc_tc]

/-- The library's body obligation, every window forgotten. -/
theorem body_obligationF (c : Dev nD) :
    BodyObligationLoose (datsF (F := F) m 0 c) (defs₀ (F := F)) Variants.none () Set.univ forgets := fun t => by
  rw [bigSep_W0, bigSep_W0, defs₀_rowF]
  exact triple_restated (sound_bodyF m c t) rfl .rfl fun _ => .rfl

/-- The buffers that the lines after the kernel write. -/
def tailBufs : Finset (Ref sig .tc) := {main_v13, main_v14, main_v15, main_v16, main_v17, main_v18, main_v19, main_v20, main_v21}

/-- The lines after the grid write the buffers after it only. -/
theorem tail_writes : ∀ ops ∈ [hostOps1 (F := F)], ∀ op ∈ ops, ∀ b : Ref sig .tc, Proc.devRef (τ := τ) .tc b ∈ op.writes → b ∈ tailBufs := by
  intro ops hops op hop b hb
  rw [List.mem_singleton] at hops
  subst hops
  simp only [hostOps1, List.mem_cons, List.not_mem_nil, or_false] at hop
  rcases hop with rfl | rfl | rfl | rfl | rfl | rfl | rfl | rfl | rfl <;>
    (obtain rfl := Proc.devRef_injective (τ := τ) _ (Finset.mem_singleton.mp hb); decide)

set_option backward.isDefEq.respectTransparency.types false in
/-- Every fair execution of @main ends, with the arrays that are no result of it as they were and every semaphore counter at zero. -/
theorem run_mainF :
    θ_run defs (onTc (τ := τ) (main (F := F))) (s₀ m ρ)
      (fun r => Pipeline.RDat.FramePostR (cfgs 0) (fun c => (datsF m 0 c).toRForget forgets) tailBufs (V m) r ∧ r.2.sem = fun _ => 0) :=
  Pipeline.θ_run_frame_around_T_forget (Q' := _) cfgs (datsF m) (0 : Fin 1) launch0 defs₀ Variants.none forgets tailBufs m ρ main
    (hbody := body_obligationF m) (hshare := fun c => (datsF m 0 c).share_full fun _ => rfl)
    (howed := fun _ _ => rfl) (V₀ := V0 m) (opss := [hostOps1]) sfx_sub sfx_fresh sfx_keeps tail_writes (hmain m Variants.none)
    (hA := A_eqF m) (hΦ := fun _ _ => rfl) (hQ' := fun _ h => h)

/-- The frame: the argument arrays are as they were, and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     (h.1.arr_in c 2 rfl).trans ((A_eqF m c 2).trans (V_main_arg2 m c)),
     ((h.1 c).2 main_arg3 (Finset.mem_sdiff.mpr ⟨Pipeline.mem_restRefs_of main_arg3 (by decide) (by decide), by decide⟩)).trans (V_main_arg3 m c),
     (h.1.arr_in c 4 rfl).trans ((A_eqF m c 4).trans (V_main_arg4 m c)),
     ((h.1 c).2 main_arg5 (Finset.mem_sdiff.mpr ⟨Pipeline.mem_restRefs_of main_arg5 (by decide) (by decide), by decide⟩)).trans (V_main_arg5 m c)⟩, h.2⟩) (run_mainF m ρ)

end Cert.KernelIdeal.Stays

end
-- ==== Proof.Trip.lean ====
/-
  The pieces of the kernel's body: the scatter of the window's words to the working arrays, the step of a tile, the gather of the new
  weights, each once over its index.
-/
module

public import proofs.«01_k».proof.KernelIdeal

@[expose] public section

noncomputable section

namespace Cert.KernelIdeal.Trip

open Idealize.ShloMosaic Idealize.SL.Sem

variable {F : FTy → Type} [FloatOps F] [Facts]
open Facts₀ Facts

/-- A program of the core. -/
abbrev P (F : FTy → Type) [FloatOps F] [Facts] (α : Type) : Type _ := Prog (TpuEff nD τ sig (Elt F) Λ₀ .tc) α

/-- `f s`, `f (s+1)`, …: `n` steps in order, of indices below `N`. -/
def steps {N : Nat} (f : Fin N → P F PUnit) : (n s : Nat) → s + n ≤ N → P F PUnit
  | 0, _, _ => pure ⟨⟩
  | n + 1, s, h => do
    f ⟨s, by omega⟩
    steps f n (s + 1) (by omega)

/-- Where word row `s` puts its low half. -/
def evenRow (s : Nat) : Nat := ((s / 4) % 16) * 96 + 3 * (s % 4) + s / 4 / 16
/-- Where word row `s` puts its high half. -/
def oddRow (s : Nat) : Nat := ((24 + s / 4) % 16) * 96 + 3 * (s % 4) + (24 + s / 4) / 16

omit [Facts] in
/-- The eight rows of an even half are in the array. -/
theorem evenRow_lt (s : Fin 96) : evenRow s + 84 < 1536 := by unfold evenRow; omega
omit [Facts] in
/-- And those of an odd half. -/
theorem oddRow_lt (s : Fin 96) : oddRow s + 84 < 1536 := by unfold oddRow; omega

omit [Facts] in
/-- Eight rows, twelve apart, are in the array. -/
theorem every12_inb {r : Nat} (h : r + 84 < 1536) : ∀ a, S8x128.size a = 0 ∨ (![r, 0] : Fin 2 → Nat) a + (![12, 1] : Fin 2 → Nat) a * (S8x128.size a - 1) < S1536x128.size a := by
  intro a; right; fin_cases a
  · show r + 12 * 7 < 1536; omega
  · show 0 + 1 * 127 < 128; omega

/-- Eight rows, twelve apart, from row `r`. -/
abbrev every12 (r : Nat) (h : r + 84 < 1536) : LoadRect S1536x128 := ⟨![r, 0], S8x128.size, ![12, 1], every12_inb h⟩

/-- Where the words of step `s` of trip `t` lie in the window. -/
def wordOff (t : Fin k0_t1_loop.trips) (s : Fin 96) : Fin 3 → Nat :=
  ![(Scalar.muli (Scf.iv 0#32 1#32 t) 8#32).toNat, 2 * s.val, 0]

omit [Facts] in
/-- They lie in the window. -/
theorem wordOff_inb (t : Fin k0_t1_loop.trips) (s : Fin 96) : ∀ a, wordOff t s a + S8x2x128.size a ≤ S16x200x128.size a := by
  revert t s; decide +kernel

/-- The words of a step: two rows of each of eight groups. -/
abbrev wordRect (t : Fin k0_t1_loop.trips) (s : Fin 96) : Rect S16x200x128 := Rect.unit (s := S16x200x128) (wordOff t s) S8x2x128.size (wordOff_inb t s)

/-- One half of the words: the rows of one parity. -/
abbrev half (p : Nat) (hp : p < 2) (raw : Vec F S8x2x128 .bf16) : FVec F S8x128 .bf16 :=
  shapeCast S8x128 (rowsOfParity ⟨p, hp⟩ S8x1x128 raw bitcasts_S8x2x128_w16_S8x1x128_w32) shapeCasts_S8x1x128_S8x128

/-- A half, as f32, to eight rows of a working array. -/
def place (dst : Memref sig .tc .vmem S1536x128 .f32) (r : Nat) (h : r + 84 < 1536) (v : FVec F S8x128 .bf16) : P F PUnit := do
  let _ ← Prog.lift (.load dst (every12 r h) (View.loadsAt_vmem h_S8x128))
  Prog.lift (.store dst ⟨every12 r h, spos_12_1⟩ (shapeCast S8x128 (extf .f32 v : FVec F S8x128 .f32) shapeCasts_S8x128_S8x128) Finset.univ (View.stores_vmem_bits_univ h_S8x128 rfl) (.inl rfl))

/-- A step's words, from the window to a working array. -/
def scatter (src : Memref sig .tc .vmem S16x200x128 .bf16) (dst : Memref sig .tc .vmem S1536x128 .f32) (t : Fin k0_t1_loop.trips) (s : Fin 96) : P F PUnit := do
  let raw : Vec F S8x2x128 .bf16 ← Prog.lift (.load src (wordRect t s).toLoadRect (View.loadsAt_vmem h_S8x2x128))
  place dst (evenRow s) (evenRow_lt s) (half 0 (by omega) raw)
  place dst (oddRow s) (oddRow_lt s) (half 1 (by omega) raw)

/-- A step's words of the weights and of the gradients. -/
def scatter2 (arg2 arg3 : Memref sig .tc .vmem S16x200x128 .bf16) (arg13 arg14 : Memref sig .tc .vmem S1536x128 .f32) (t : Fin k0_t1_loop.trips) (s : Fin 96) : P F PUnit := do
  scatter arg2 arg13 t s
  scatter arg3 arg14 t s

/-- `f s`, `f (s+1)`, … with a value carried from one to the next. -/
def stepsWith {N : Nat} {σ : Type} (f : Fin N → σ → P F σ) : (n s : Nat) → s + n ≤ N → σ → P F σ
  | 0, _, _, a => pure a
  | n + 1, s, h, a => do
    let b ← f ⟨s, by omega⟩ a
    stepsWith f n (s + 1) (by omega) b

/-! ## One tile of 32 blocks -/

/-- The first block of tile `kk`, counted within the whole of the tensor's state. -/
def tileBlk (i : grid0.Coords) (t : Fin k0_t1_loop.trips) (kk : Fin 3) : BitVec 32 :=
  Scalar.muli (Scalar.addi (Scalar.muli (Scalar.muli (BitVec.ofNat 32 (i 1).val) 2#32) 3#32) (Scalar.addi (Scalar.muli (Scf.iv 0#32 1#32 t) 3#32) (BitVec.ofNat 32 kk.val))) 32#32

/-- Its remainder by 128, as the program computes it. -/
def tileLane (i : grid0.Coords) (t : Fin k0_t1_loop.trips) (kk : Fin 3) : BitVec 32 :=
  let d : BitVec 32 := Scalar.select (Scalar.cmpi .eq 128#32 0#32) 1#32 128#32
  let r : BitVec 32 := Scalar.remsi (tileBlk i t kk) d
  Scalar.select (Scalar.andi (Scalar.xori (Scalar.cmpi .slt r 0#32) (Scalar.cmpi .slt d 0#32)) (Scalar.cmpi .ne r 0#32)) (Scalar.addi r d) r

/-- The row of the scale arrays that holds a tile's scales. -/
def tileRow (i : grid0.Coords) (t : Fin k0_t1_loop.trips) (kk : Fin 3) : BitVec 32 :=
  let b : BitVec 32 := tileBlk i t kk
  let sg (x : BitVec 32) : BitVec 32 := Scalar.subi (Scalar.extui (Scalar.cmpi .sgt x 0#32)) (Scalar.extui (Scalar.cmpi .slt x 0#32))
  let q : BitVec 32 := Scalar.divsi b 128#32
  let fix : BitVec 1 := Scalar.andi (Scalar.cmpi .ne (sg b) (sg 128#32)) (Scalar.cmpi .ne (Scalar.remsi b 128#32) 0#32)
  Scalar.addi (Scalar.muli (Scalar.select fix (Scalar.subi q 1#32) q) 4#32) (BitVec.ofNat 32 (i 0).val)

/-- The row of codes a tile begins at. -/
def tileCode (t : Fin k0_t1_loop.trips) (kk : Fin 3) : BitVec 32 :=
  Scalar.muli (Scalar.addi (Scalar.muli (Scf.iv 0#32 1#32 t) 3#32) (BitVec.ofNat 32 kk.val)) 32#32

/-- The lane of each block's scale: column minus row is the tile's first lane. -/
def laneMask (i : grid0.Coords) (t : Fin k0_t1_loop.trips) (kk : Fin 3) : IVec S32x128 1 :=
  cmpi .eq (subi (iota .tc S32x128 32 [1] iota_S32x128_d1_w32) (iota .tc S32x128 32 [0] iota_S32x128_d0_w32)) (broadcast S32x128 (tileLane i t kk))

/-- The row of scales of a tile. -/
abbrev scaleRect (i : grid0.Coords) (t : Fin k0_t1_loop.trips) (kk : Fin 3) : Rect S24x128 :=
  Rect.unit (s := S24x128) (k0_off98 i t (BitVec.ofNat 32 kk.val)) S1x128.size (k0_off98_inb i t kk)

/-- The scales of a tile's blocks as a column. -/
def scaleCol (mask : IVec S32x128 1) (row : Vec F S1x128 .f32) : FVec F S32x1 .f32 :=
  shapeCast S32x1 (multiReduction .add [1] S32 (select mask (broadcastTo S32x128 (shapeCast S1x128 (shapeCast S1x128 row shapeCasts_S1x128_S1x128 : FVec F S1x128 .f32) shapeCasts_S1x128_S1x128) broadcasts_S1x128_S32x128) (broadcast S32x128 (Scalar.ofBits .f32 0x00000000#32 : F .f32))) 0x00000000#32 reduces_S32x128_S32 (.inl rfl) rfl : FVec F S32 .f32) shapeCasts_S32_S32x1

/-- Where a chunk's codes lie in the window. -/
def codeOff (t : Fin k0_t1_loop.trips) (kk : Fin 3) (c : Fin 16) : Fin 3 → Nat :=
  ![0, (Scalar.indexCast (tileCode t kk) : Index).toNat, 128 * c.val]

omit [Facts] in
/-- They lie in the window. -/
theorem codeOff_inb (t : Fin k0_t1_loop.trips) (kk : Fin 3) (c : Fin 16) : ∀ a, codeOff t kk c a + S1x32x128.size a ≤ S1x192x2048.size a := by
  revert t kk c; decide +kernel

/-- A chunk's codes. -/
abbrev codeRect (t : Fin k0_t1_loop.trips) (kk : Fin 3) (c : Fin 16) : Rect S1x192x2048 :=
  Rect.unit (s := S1x192x2048) (codeOff t kk c) S1x32x128.size (codeOff_inb t kk c)

omit [Facts] in
/-- They are whole packed rows. -/
theorem codeRect_packed (t : Fin k0_t1_loop.trips) (kk : Fin 3) (c : Fin 16) : (codeRect t kk c).PackedRows (EltTy.packing .fp8e4m3) := by
  revert t kk c; decide +kernel

omit [Facts] in
/-- A chunk's rows are in the working array. -/
theorem rows_inb (kk : Fin 3) (c : Fin 16) : ∀ a, (![c.val * 96 + kk.val * 32, 0] : Fin 2 → Nat) a + S32x128.size a ≤ S1536x128.size a := by
  revert kk c; decide +kernel

/-- The rows of chunk `c` of tile `kk` in a working array. -/
abbrev rowsRect (kk : Fin 3) (c : Fin 16) : Rect S1536x128 :=
  Rect.unit (s := S1536x128) ![c.val * 96 + kk.val * 32, 0] S32x128.size (rows_inb kk c)

/-- One number everywhere. -/
abbrev splat (b : BitVec 32) : FVec F S32x128 .f32 := broadcast S32x128 (Scalar.ofBits .f32 b : F .f32)

/-- A moment as stored: codes times the block's scale. -/
def dequant (sc : FVec F S32x1 .f32) (codes : Vec F S1x32x128 .fp8e4m3) : FVec F S32x128 .f32 :=
  mulf (extf .f32 (shapeCast S32x128 codes shapeCasts_S1x32x128_S32x128 : FVec F S32x128 .fp8e4m3) bitsLt_fp8e4m3_f32) (broadcastTo S32x128 sc broadcasts_S32x1_S32x128)

/-- The first moment of a tile's chunk, stepped. -/
def newM (sc : FVec F S32x1 .f32) (codes : Vec F S1x32x128 .fp8e4m3) (g : FVec F S32x128 .f32) : FVec F S32x128 .f32 :=
  addf (mulf (splat 0x3F666666#32) (dequant sc codes)) (mulf (splat 0x3DCCCCCD#32) g)

/-- The second. -/
def newV (sc : FVec F S32x1 .f32) (codes : Vec F S1x32x128 .fp8e4m3) (g : FVec F S32x128 .f32) : FVec F S32x128 .f32 :=
  addf (mulf (splat 0x3F7FBE77#32) (dequant sc codes)) (mulf (mulf (splat 0x3A83126F#32) g) g)

/-- The weights of the chunk, stepped. -/
def newW (w m v : FVec F S32x128 .f32) : FVec F S32x128 .f32 :=
  subf (mulf w (splat 0x3F7C28F6#32)) (mulf (mulf (splat 0x3AC8C9B9#32) m) (divf (splat 0x3F800000#32) (addf (divf (splat 0x3F800000#32) (rsqrt v)) (splat 0x30892154#32))))

/-- A load whose value is not used, and a store, of a chunk's rows. -/
def putRows (dst : Memref sig .tc .vmem S1536x128 .f32) (kk : Fin 3) (c : Fin 16) (v : FVec F S32x128 .f32) : P F PUnit := do
  let _ ← Prog.lift (.load dst (rowsRect kk c).toLoadRect (View.loadsAt_vmem h_S32x128))
  Prog.lift (.store dst (rowsRect kk c) (shapeCast S32x128 v shapeCasts_S32x128_S32x128) Finset.univ (View.stores_vmem_bits_univ h_S32x128 rfl) (.inl rfl))

/-- One chunk of 128 elements of each of a tile's blocks: the step, and the running maxima. -/
def chunk (arg4 arg6 : Memref sig .tc .vmem S1x192x2048 .fp8e4m3) (arg13 arg14 arg15 arg16 : Memref sig .tc .vmem S1536x128 .f32)
    (t : Fin k0_t1_loop.trips) (kk : Fin 3) (scm scv : FVec F S32x1 .f32) (c : Fin 16) (mx : FVec F S32x128 .f32 × FVec F S32x128 .f32) :
    P F (FVec F S32x128 .f32 × FVec F S32x128 .f32) := do
  let cm : Vec F S1x32x128 .fp8e4m3 ← Prog.lift (.load arg4 (codeRect t kk c).toLoadRect (View.loadsAt_vmem h_S1x32x128))
  let cv : Vec F S1x32x128 .fp8e4m3 ← Prog.lift (.load arg6 (codeRect t kk c).toLoadRect (View.loadsAt_vmem h_S1x32x128))
  let g : Vec F S32x128 .f32 ← Prog.lift (.load arg14 (rowsRect kk c).toLoadRect (View.loadsAt_vmem h_S32x128))
  let w : Vec F S32x128 .f32 ← Prog.lift (.load arg13 (rowsRect kk c).toLoadRect (View.loadsAt_vmem h_S32x128))
  putRows arg13 kk c (newW w (newM scm cm g) (newV scv cv g))
  putRows arg15 kk c (newM scm cm g)
  putRows arg16 kk c (newV scv cv g)
  pure (maximumf mx.1 (absf (newM scm cm g)), maximumf mx.2 (absf (newV scv cv g)))

/-- The largest absolute value of a block over the largest code value, in every lane. -/
def ratio (mx : FVec F S32x128 .f32) : FVec F S32x128 .f32 :=
  broadcastTo S32x128 (shapeCast S32x1 (mulf (shapeCast S32x1 (multiReduction .maximumf [1] S32 mx 0xFF800000#32 reduces_S32x128_S32 (.inl rfl) rfl : FVec F S32 .f32) shapeCasts_S32_S32x1) (broadcast S32x1 (Scalar.ofBits .f32 0x3B124925#32 : F .f32))) shapeCasts_S32x1_S32x1 : FVec F S32x1 .f32) broadcasts_S32x1_S32x128

/-- The exponent of a block's scale, less one. -/
def expo (x : FVec F S32x128 .f32) : FVec F S32x128 .f32 :=
  select (ori (cmpf .oeq x (splat 0x00000000#32)) (cmpf .oeq x (splat 0x7F800000#32))) (splat 0xBF800000#32) (floor (divf (log x) (log (splat 0x40000000#32))))

/-- The inverse of the scale. -/
def inverse (x : FVec F S32x128 .f32) : FVec F S32x128 .f32 := exp2 (subf (splat 0xBF800000#32) (expo x))
/-- The scale. -/
def scale (x : FVec F S32x128 .f32) : FVec F S32x128 .f32 := exp2 (addf (expo x) (splat 0x3F800000#32))

/-- A tile's scales, each in its own lane, over the row they are kept in. -/
def scaleRow (mask : IVec S32x128 1) (sc : FVec F S32x128 .f32) (old : Vec F S1x128 .f32) : FVec F S1x128 .f32 :=
  addf (shapeCast S1x128 old shapeCasts_S1x128_S1x128) (shapeCast S1x128 (multiReduction .add [0] S128 (select mask sc (splat 0x00000000#32)) 0x00000000#32 reduces_S32x128_S128 (.inl rfl) rfl : FVec F S128 .f32) shapeCasts_S128_S1x128)

/-- The codes of a chunk. -/
def codesOf (x inv : FVec F S32x128 .f32) : FVec F S1x32x128 .fp8e4m3 :=
  shapeCast S1x32x128 (truncf .fp8e4m3 (minimumf (splat 0x43E00000#32) (maximumf (splat 0xC3E00000#32) (mulf x inv))) bitsLt_fp8e4m3_f32 : FVec F S32x128 .fp8e4m3) shapeCasts_S32x128_S1x32x128

/-- One chunk's codes. -/
def codeChunk (src : Memref sig .tc .vmem S1536x128 .f32) (dst : Memref sig .tc .vmem S1x192x2048 .fp8e4m3) (hdst : dst.IsWhole)
    (t : Fin k0_t1_loop.trips) (kk : Fin 3) (inv : FVec F S32x128 .f32) (c : Fin 16) : P F PUnit := do
  let x : Vec F S32x128 .f32 ← Prog.lift (.load src (rowsRect kk c).toLoadRect (View.loadsAt_vmem h_S32x128))
  let _ ← Prog.lift (.load dst (codeRect t kk c).toLoadRect (View.loadsAt_vmem h_S1x32x128))
  Prog.lift (.store dst (codeRect t kk c) (codesOf x inv) Finset.univ (View.stores_vmem h_S1x32x128 (hdst.storeExact_slice rfl _ (codeRect_packed t kk c)) (fun _ => rfl)) (.inl rfl))

/-- A tile's scales added to their row. -/
def quantiseScale (scales : Memref sig .tc .vmem S24x128 .f32) (i : grid0.Coords) (t : Fin k0_t1_loop.trips) (kk : Fin 3) (mx : FVec F S32x128 .f32) : P F PUnit := do
  let old : Vec F S1x128 .f32 ← Prog.lift (.load scales (scaleRect i t kk).toLoadRect (View.loadsAt_vmem h_S1x128))
  let _ ← Prog.lift (.load scales (scaleRect i t kk).toLoadRect (View.loadsAt_vmem h_S1x128))
  Prog.lift (.store scales (scaleRect i t kk) (scaleRow (laneMask i t kk) (scale (ratio mx)) old) Finset.univ (View.stores_vmem_bits_univ h_S1x128 rfl) (.inl rfl))

/-- A tile's scales added to their row, then its codes. -/
def quantise (scales : Memref sig .tc .vmem S24x128 .f32) (src : Memref sig .tc .vmem S1536x128 .f32) (dst : Memref sig .tc .vmem S1x192x2048 .fp8e4m3) (hdst : dst.IsWhole)
    (i : grid0.Coords) (t : Fin k0_t1_loop.trips) (kk : Fin 3) (mx : FVec F S32x128 .f32) : P F PUnit := do
  quantiseScale scales i t kk mx
  steps (codeChunk src dst hdst t kk (inverse (ratio mx))) 16 0 (by omega)

/-- The first part of a tile: its scales read, its chunks stepped; the maxima. -/
def tileStep (arg4 arg6 : Memref sig .tc .vmem S1x192x2048 .fp8e4m3) (arg5 arg7 : Memref sig .tc .vmem S24x128 .f32)
    (arg13 arg14 arg15 arg16 : Memref sig .tc .vmem S1536x128 .f32)
    (i : grid0.Coords) (t : Fin k0_t1_loop.trips) (kk : Fin 3) : P F (FVec F S32x128 .f32 × FVec F S32x128 .f32) := do
  let rm : Vec F S1x128 .f32 ← Prog.lift (.load arg5 (scaleRect i t kk).toLoadRect (View.loadsAt_vmem h_S1x128))
  let rv : Vec F S1x128 .f32 ← Prog.lift (.load arg7 (scaleRect i t kk).toLoadRect (View.loadsAt_vmem h_S1x128))
  stepsWith (chunk arg4 arg6 arg13 arg14 arg15 arg16 t kk (scaleCol (laneMask i t kk) rm) (scaleCol (laneMask i t kk) rv)) 16 0 (by omega)
    (splat 0x00000000#32, splat 0x00000000#32)

/-- One tile. -/
def tile (arg4 arg6 : Memref sig .tc .vmem S1x192x2048 .fp8e4m3) (arg5 arg7 : Memref sig .tc .vmem S24x128 .f32)
    (arg9 : Memref sig .tc .vmem S1x192x2048 .fp8e4m3) (harg9 : arg9.IsWhole) (arg10 : Memref sig .tc .vmem S24x128 .f32)
    (arg11 : Memref sig .tc .vmem S1x192x2048 .fp8e4m3) (harg11 : arg11.IsWhole) (arg12 : Memref sig .tc .vmem S24x128 .f32)
    (arg13 arg14 arg15 arg16 : Memref sig .tc .vmem S1536x128 .f32)
    (i : grid0.Coords) (t : Fin k0_t1_loop.trips) (kk : Fin 3) : P F PUnit := do
  let mx ← tileStep arg4 arg6 arg5 arg7 arg13 arg14 arg15 arg16 i t kk
  quantise arg10 arg15 arg9 harg9 i t kk mx.1
  quantise arg12 arg16 arg11 harg11 i t kk mx.2

/-! ## The weights back into words -/

omit [Facts] in
/-- A step's words are whole packed rows. -/
theorem wordRect_packed (t : Fin k0_t1_loop.trips) (s : Fin 96) : (wordRect t s).PackedRows (EltTy.packing .bf16) := by
  revert t s; decide +kernel

/-- Two halves, as bf16, put together to words. -/
def words (lo hi : Vec F S8x128 .f32) : FVec F S8x2x128 .bf16 :=
  interleaveRows S8x2x128 (shapeCast S8x1x128 (truncf .bf16 lo : FVec F S8x128 .bf16) shapeCasts_S8x128_S8x1x128) (shapeCast S8x1x128 (truncf .bf16 hi : FVec F S8x128 .bf16) shapeCasts_S8x128_S8x1x128) bitcasts_S8x2x128_w16_S8x1x128_w32

/-- A step's new weights, from the working array to the window. -/
def gather (src : Memref sig .tc .vmem S1536x128 .f32) (dst : Memref sig .tc .vmem S16x200x128 .bf16) (hdst : dst.IsWhole) (t : Fin k0_t1_loop.trips) (s : Fin 96) : P F PUnit := do
  let lo : Vec F S8x128 .f32 ← Prog.lift (.load src (every12 (evenRow s) (evenRow_lt s)) (View.loadsAt_vmem h_S8x128))
  let hi : Vec F S8x128 .f32 ← Prog.lift (.load src (every12 (oddRow s) (oddRow_lt s)) (View.loadsAt_vmem h_S8x128))
  let _ ← Prog.lift (.load dst (wordRect t s).toLoadRect (View.loadsAt_vmem h_S8x2x128))
  Prog.lift (.store dst (wordRect t s) (words lo hi) Finset.univ (View.stores_vmem h_S8x2x128 (hdst.storeExact_slice rfl _ (wordRect_packed t s)) (fun _ => rfl)) (.inl rfl))

/-- One trip. -/
def trip (arg2 arg3 : Memref sig .tc .vmem S16x200x128 .bf16) (arg4 arg6 : Memref sig .tc .vmem S1x192x2048 .fp8e4m3) (arg5 arg7 : Memref sig .tc .vmem S24x128 .f32)
    (arg8 : Memref sig .tc .vmem S16x200x128 .bf16) (harg8 : arg8.IsWhole)
    (arg9 : Memref sig .tc .vmem S1x192x2048 .fp8e4m3) (harg9 : arg9.IsWhole) (arg10 : Memref sig .tc .vmem S24x128 .f32)
    (arg11 : Memref sig .tc .vmem S1x192x2048 .fp8e4m3) (harg11 : arg11.IsWhole) (arg12 : Memref sig .tc .vmem S24x128 .f32)
    (arg13 arg14 arg15 arg16 : Memref sig .tc .vmem S1536x128 .f32)
    (i : grid0.Coords) (t : Fin k0_t1_loop.trips) : P F PUnit := do
  steps (scatter2 arg2 arg3 arg13 arg14 t) 96 0 (by omega)
  steps (tile arg4 arg6 arg5 arg7 arg9 harg9 arg10 arg11 harg11 arg12 arg13 arg14 arg15 arg16 i t) 3 0 (by omega)
  steps (gather arg13 arg8 harg8 t) 96 0 (by omega)

/-- The scale arrays cleared at the first point. -/
def clear (arg10 arg12 : Memref sig .tc .vmem S24x128 .f32) : P F PUnit := do
  let _ ← Prog.lift (.load arg10 (Rect.unit (s := S24x128) ![0, 0] S24x128.size inb_S24x128_S24x128_0_0).toLoadRect (View.loadsAt_vmem h_S24x128))
  Prog.lift (.store arg10 (Rect.unit (s := S24x128) ![0, 0] S24x128.size inb_S24x128_S24x128_0_0) (broadcast S24x128 (Scalar.ofBits .f32 0x00000000#32 : F .f32)) Finset.univ (View.stores_vmem_bits_univ h_S24x128 rfl) (.inl rfl))
  let _ ← Prog.lift (.load arg12 (Rect.unit (s := S24x128) ![0, 0] S24x128.size inb_S24x128_S24x128_0_0).toLoadRect (View.loadsAt_vmem h_S24x128))
  Prog.lift (.store arg12 (Rect.unit (s := S24x128) ![0, 0] S24x128.size inb_S24x128_S24x128_0_0) (broadcast S24x128 (Scalar.ofBits .f32 0x00000000#32 : F .f32)) Finset.univ (View.stores_vmem_bits_univ h_S24x128 rfl) (.inl rfl))

/-- Whether a point is the first. -/
def atFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

end Cert.KernelIdeal.Trip
-- ==== Proof.Spec.lean ====
/-
  The mathematics of one grid point, over the extended reals: what the step makes of one element, what a block's scale is, and
  where an element of a block lies in the buffers. Indices are naturals: `at2`, `at3` read an array at naturals.
-/
module

public import proofs.«01_k».proof.Proof.Trip
public import Idealize.ShloMosaic.Lib.Pointwise
public import Idealize.ShloMosaic.PureOps.Ideal.Laws

@[expose] public section

set_option maxRecDepth 16384

noncomputable section

namespace Cert.KernelIdeal.Values

open Idealize.ShloMosaic Idealize.SL.Sem

/-- An array of two axes read at naturals. -/
def at2 {α : Type} {a b : Nat} [NeZero a] [NeZero b] (X : (⟨2, ![a, b]⟩ : Shape).Idx → α) (i j : Nat) : α := X (ix2 (Fin.ofNat a i) (Fin.ofNat b j))
/-- An array of three axes read at naturals. -/
def at3 {α : Type} {a b c : Nat} [NeZero a] [NeZero b] [NeZero c] (X : (⟨3, ![a, b, c]⟩ : Shape).Idx → α) (i j k : Nat) : α :=
  X (ix3 (Fin.ofNat a i) (Fin.ofNat b j) (Fin.ofNat c k))

/-- An index in range is the natural it is. -/
theorem at2_eq {α : Type} {a b : Nat} [NeZero a] [NeZero b] (X : (⟨2, ![a, b]⟩ : Shape).Idx → α) (i : Fin a) (j : Fin b) : X (ix2 i j) = at2 X i.val j.val := by
  unfold at2; rw [Fin.ofNat_val_eq_self, Fin.ofNat_val_eq_self]
/-- An index in range is the natural it is. -/
theorem at3_eq {α : Type} {a b c : Nat} [NeZero a] [NeZero b] [NeZero c] (X : (⟨3, ![a, b, c]⟩ : Shape).Idx → α) (i : Fin a) (j : Fin b) (k : Fin c) :
    X (ix3 i j k) = at3 X i.val j.val k.val := by
  unfold at3; rw [Fin.ofNat_val_eq_self, Fin.ofNat_val_eq_self, Fin.ofNat_val_eq_self]

/-- The row, within its group of eight rows of the tensor, of chunk `c` of block `R`, and its place among the chunks of that row:
    as one number, 8 times the place plus the row. -/
def colOf (R c : Nat) : Nat := 8 * ((16 * (R % 12 % 3) + c) % 24) + 2 * (R % 12 / 3) + (16 * (R % 12 % 3) + c) / 24

/-- Element `e` of block `R` of a point's window. -/
def elem (W : Vec Ideal S16x200x128 .bf16) (R e : Nat) : EReal := at3 W (R / 12) (colOf R (e / 128)) (e % 128)

/-- The scale of block `R` of point `(b, s)`. -/
def scaleAt (S : Vec Ideal S24x128 .f32) (b s R : Nat) : EReal := at2 S ((192 * s + R) / 128 * 4 + b) ((192 * s + R) % 128)

/-- The first moment, stepped. -/
def updM (sc code g : EReal) : EReal := Ideal.ofBits FTy.f32 0x3F666666#32 * (code * sc) + Ideal.ofBits FTy.f32 0x3DCCCCCD#32 * g
/-- The second moment, stepped. -/
def updV (sc code g : EReal) : EReal := Ideal.ofBits FTy.f32 0x3F7FBE77#32 * (code * sc) + Ideal.ofBits FTy.f32 0x3A83126F#32 * g * g
/-- The weight, stepped, as the program spells it. -/
def updW (w m v : EReal) : EReal :=
  w * Ideal.ofBits FTy.f32 0x3F7C28F6#32 - Ideal.ofBits FTy.f32 0x3AC8C9B9#32 * m *
    Ideal.div 1 (Ideal.div 1 (Ideal.rsqrt v) + Ideal.ofBits FTy.f32 0x30892154#32)

/-- The largest absolute value of `f 0`, …, `f (n - 1)`, and 0. -/
def runMax (f : Nat → EReal) : Nat → EReal
  | 0 => 0
  | n + 1 => max (runMax f n) (max (f n) (-f n))

/-- A block's largest absolute value over the largest code. -/
def ratioOf (f : Nat → EReal) : EReal :=
  Finset.fold max (Ideal.ofBits FTy.f32 0xFF800000#32) (fun l : Fin 128 => runMax (fun c => f (c * 128 + l.val)) 16) Finset.univ * Ideal.ofBits FTy.f32 0x3B124925#32

/-- The exponent of a block's scale, less one, from the block's ratio. -/
def expoOf (x : EReal) : EReal :=
  Scalar.select (IntOp.ori (BitVec.ofBool (decide (x = 0))) (BitVec.ofBool (decide (x = Ideal.ofBits FTy.f32 0x7F800000#32))))
    (Ideal.ofBits FTy.f32 0xBF800000#32) (Ideal.liftRound Int.floor (Ideal.div (Ideal.log x) (Ideal.log (Ideal.ofBits FTy.f32 0x40000000#32))))
/-- The scale. -/
def scaleOf (x : EReal) : EReal := (FloatOps.exp2 (F := Ideal) (φ := .f32) (expoOf x + 1 : EReal) : EReal)
/-- The scale's inverse. -/
def inverseOf (x : EReal) : EReal := (FloatOps.exp2 (F := Ideal) (φ := .f32) (Ideal.ofBits FTy.f32 0xBF800000#32 - expoOf x : EReal) : EReal)
/-- A code from a value and the inverse scale. -/
def codeOf (x inv : EReal) : EReal := min (Ideal.ofBits FTy.f32 0x43E00000#32) (max (Ideal.ofBits FTy.f32 0xC3E00000#32) (x * inv))

/-- What the buffers of a point hold. -/
structure Bufs where
  w : Vec Ideal S16x200x128 .bf16
  g : Vec Ideal S16x200x128 .bf16
  mc : Vec Ideal S1x192x2048 .fp8e4m3
  ms : Vec Ideal S24x128 .f32
  vc : Vec Ideal S1x192x2048 .fp8e4m3
  vs : Vec Ideal S24x128 .f32
  wo : Vec Ideal S16x200x128 .bf16
  mo : Vec Ideal S1x192x2048 .fp8e4m3
  mso : Vec Ideal S24x128 .f32
  vo : Vec Ideal S1x192x2048 .fp8e4m3
  vso : Vec Ideal S24x128 .f32
  fw : Vec Ideal S1536x128 .f32
  fg : Vec Ideal S1536x128 .f32
  fm : Vec Ideal S1536x128 .f32
  fv : Vec Ideal S1536x128 .f32

/-- Element `e` of block `R` of the first moment, stepped. -/
def mNew (σ : Bufs) (b s R e : Nat) : EReal := updM (scaleAt σ.ms b s R) (at3 σ.mc 0 R e) (elem σ.g R e)
/-- Element `e` of block `R` of the second moment, stepped. -/
def vNew (σ : Bufs) (b s R e : Nat) : EReal := updV (scaleAt σ.vs b s R) (at3 σ.vc 0 R e) (elem σ.g R e)
/-- Element `e` of block `R` of the weights, stepped. -/
def wNew (σ : Bufs) (b s R e : Nat) : EReal := updW (elem σ.w R e) (mNew σ b s R e) (vNew σ b s R e)

variable [Facts]
open Facts₀ Facts Trip

/-! ## The vector expressions of the program, at an index -/

/-- The first moment of a tile, at an index. -/
theorem newM_at (sc : FVec Ideal S32x1 .f32) (codes : Vec Ideal S1x32x128 .fp8e4m3) (g : FVec Ideal S32x128 .f32) (q : Fin 32) (l : Fin 128) :
    newM sc codes g (ix2 q l) = updM (sc (ix2 q 0)) (codes (ix3 0 q l)) (g (ix2 q l)) := by
  unfold newM dequant splat updM; pointwise

/-- The second. -/
theorem newV_at (sc : FVec Ideal S32x1 .f32) (codes : Vec Ideal S1x32x128 .fp8e4m3) (g : FVec Ideal S32x128 .f32) (q : Fin 32) (l : Fin 128) :
    newV sc codes g (ix2 q l) = updV (sc (ix2 q 0)) (codes (ix3 0 q l)) (g (ix2 q l)) := by
  unfold newV dequant splat updV; pointwise

/-- The new weights. -/
theorem newW_at (w m v : FVec Ideal S32x128 .f32) (q : Fin 32) (l : Fin 128) :
    newW w m v (ix2 q l) = updW (w (ix2 q l)) (m (ix2 q l)) (v (ix2 q l)) := by
  unfold newW splat updW; pointwise

/-- One step of the running maximum. -/
theorem max_at (mx m : FVec Ideal S32x128 .f32) (q : Fin 32) (l : Fin 128) :
    maximumf mx (absf m) (ix2 q l) = (max (mx (ix2 q l) : EReal) (max (m (ix2 q l)) (-(m (ix2 q l) : EReal))) : EReal) := by
  pointwise
  rfl

/-- The ratio of a block, from the running maxima of its lanes. -/
theorem ratio_at (mx : FVec Ideal S32x128 .f32) (f : Nat → EReal) (q : Fin 32) (l : Fin 128)
    (h : ∀ l : Fin 128, mx (ix2 q l) = runMax (fun c => f (c * 128 + l.val)) 16) : ratio mx (ix2 q l) = ratioOf f := by
  unfold ratio ratioOf; pointwise; simp only [h]

/-- The exponent. -/
theorem expo_at (x : FVec Ideal S32x128 .f32) (q : Fin 32) (l : Fin 128) : expo x (ix2 q l) = expoOf (x (ix2 q l)) := by
  unfold expo expoOf splat; pointwise

/-- The scale. -/
theorem scale_at (x : FVec Ideal S32x128 .f32) (q : Fin 32) (l : Fin 128) : scale x (ix2 q l) = scaleOf (x (ix2 q l)) := by
  unfold scale scaleOf; rw [← expo_at]; unfold splat; pointwise

/-- Its inverse. -/
theorem inverse_at (x : FVec Ideal S32x128 .f32) (q : Fin 32) (l : Fin 128) : inverse x (ix2 q l) = inverseOf (x (ix2 q l)) := by
  unfold inverse inverseOf; rw [← expo_at]; unfold splat; pointwise

/-- The codes. -/
theorem codesOf_at (x inv : FVec Ideal S32x128 .f32) (z : Fin 1) (q : Fin 32) (l : Fin 128) : codesOf x inv (ix3 z q l) = codeOf (x (ix2 q l)) (inv (ix2 q l)) := by
  unfold codesOf splat codeOf; pointwise

/-- Half `p` of the words is row `p` of each pair. -/
theorem half_at (p : Nat) (hp : p < 2) (raw : Vec Ideal S8x2x128 .bf16) (q : Fin 8) (l : Fin 128) :
    half (F := Ideal) p hp raw (ix2 q l) = raw (ix3 q ⟨p, hp⟩ l) := by
  unfold half; pointwise

/-- Two halves put together to words. -/
theorem words_at (lo hi : Vec Ideal S8x128 .f32) (q : Fin 8) (p : Fin 2) (l : Fin 128) :
    words (F := Ideal) lo hi (ix3 q p l) = if p.val = 0 then lo (ix2 q l) else hi (ix2 q l) := by
  unfold words; pointwise
  have : p.val % 2 = p.val := Nat.mod_eq_of_lt p.isLt
  rw [this]

/-! ## Which lane holds a block's scale -/

/-- The lane where a tile's scales begin. -/
theorem mask_lane (i : grid0.Coords) (t : Fin k0_t1_loop.trips) (kk : Fin 3) :
    tileLane i t kk = BitVec.ofNat 32 ((192 * (i 1).val + 96 * t.val + 32 * kk.val) % 128) := by
  revert i t kk
  have h : ∀ (s : Fin 4) (t : Fin k0_t1_loop.trips) (kk : Fin 3) (b : BitVec 32), b = BitVec.ofNat 32 s.val →
    (let d : BitVec 32 := Scalar.select (Scalar.cmpi .eq 128#32 0#32) 1#32 128#32
     let r : BitVec 32 := Scalar.remsi (Scalar.muli (Scalar.addi (Scalar.muli (Scalar.muli b 2#32) 3#32) (Scalar.addi (Scalar.muli (Scf.iv 0#32 1#32 t) 3#32) (BitVec.ofNat 32 kk.val))) 32#32) d
     Scalar.select (Scalar.andi (Scalar.xori (Scalar.cmpi .slt r 0#32) (Scalar.cmpi .slt d 0#32)) (Scalar.cmpi .ne r 0#32)) (Scalar.addi r d) r)
      = BitVec.ofNat 32 ((192 * s.val + 96 * t.val + 32 * kk.val) % 128) := by
    intro s t kk b hb; subst hb; revert s t kk; decide +kernel
  intro i t kk
  exact h (i 1) t kk _ rfl

/-- The mask picks the lane of its block. -/
theorem laneMask_at (i : grid0.Coords) (t : Fin k0_t1_loop.trips) (kk : Fin 3) (q : Fin 32) (l : Fin 128) :
    laneMask i t kk (ix2 q l) = BitVec.ofBool (decide (l.val = (192 * (i 1).val + 96 * t.val + 32 * kk.val) % 128 + q.val)) := by
  unfold laneMask
  pointwise
  rw [mask_lane]
  have hm : (192 * (i 1).val + 96 * t.val + 32 * kk.val) % 128 ∈ ({0, 32, 64, 96} : Finset Nat) := by
    have := Nat.mod_lt (192 * (i 1).val + 96 * t.val + 32 * kk.val) (by omega : 128 > 0)
    simp only [Finset.mem_insert, Finset.mem_singleton]; omega
  generalize (192 * (i 1).val + 96 * t.val + 32 * kk.val) % 128 = m at hm
  have : ∀ m ∈ ({0, 32, 64, 96} : Finset Nat), ∀ (q : Fin 32) (l : Fin 128),
    IntOp.cmpi CmpIPredicate.eq (IntOp.subi (BitVec.ofNat 32 l.val) (BitVec.ofNat 32 q.val)) (BitVec.ofNat 32 m) = BitVec.ofBool (decide (l.val = m + q.val)) := by
    decide +kernel
  exact this m hm q l

/-- A choice by a decided proposition. -/
theorem select_bool (p : Prop) [Decidable p] (a b : EReal) : Scalar.select (BitVec.ofBool (decide p)) a b = if p then a else b := by
  by_cases h : p <;> simp [Scalar.select, h]

/-- There are two trips. -/
theorem trip_lt (t : Fin k0_t1_loop.trips) : t.val < 2 := lt_of_lt_of_eq t.isLt (by decide +kernel)

/-- A block's scale, picked out of the row of scales. -/
theorem scaleCol_at (i : grid0.Coords) (t : Fin k0_t1_loop.trips) (kk : Fin 3) (row : Vec Ideal S1x128 .f32) (q : Fin 32) :
    scaleCol (F := Ideal) (laneMask i t kk) row (ix2 q 0) = at2 row 0 ((192 * (i 1).val + (96 * t.val + 32 * kk.val + q.val)) % 128) := by
  unfold scaleCol
  pointwise
  simp only [laneMask_at, select_bool]
  have h : (192 * (i 1).val + (96 * t.val + 32 * kk.val + q.val)) % 128 = (192 * (i 1).val + 96 * t.val + 32 * kk.val) % 128 + q.val := by omega
  rw [h]
  have hlt : (192 * (i 1).val + 96 * t.val + 32 * kk.val) % 128 + q.val < 128 := by omega
  generalize (192 * (i 1).val + 96 * t.val + 32 * kk.val) % 128 + q.val = m at hlt
  rw [Finset.sum_eq_single (⟨m, hlt⟩ : Fin 128)]
  · rw [if_pos rfl]; exact at2_eq row 0 ⟨m, hlt⟩
  · intro x _ hx; rw [if_neg]; intro e; exact hx (Fin.ext e)
  · intro hx; exact absurd (Finset.mem_univ _) hx

/-- A tile's scales added to a row: lane `l` gains the scale of the block whose lane it is, if that block is of the tile. -/
theorem scaleRow_at (i : grid0.Coords) (t : Fin k0_t1_loop.trips) (kk : Fin 3) (sc : FVec Ideal S32x128 .f32) (f : Nat → EReal) (old : Vec Ideal S1x128 .f32) (z : Fin 1) (l : Fin 128)
    (h : ∀ (q : Fin 32) (l : Fin 128), sc (ix2 q l) = f q.val) :
    scaleRow (F := Ideal) (laneMask i t kk) sc old (ix2 z l) =
      if (192 * (i 1).val + 96 * t.val + 32 * kk.val) % 128 ≤ l.val ∧ l.val < (192 * (i 1).val + 96 * t.val + 32 * kk.val) % 128 + 32 then
        (old (ix2 z l) : EReal) + f (l.val - (192 * (i 1).val + 96 * t.val + 32 * kk.val) % 128) else old (ix2 z l) := by
  unfold scaleRow splat
  have hz : z = 0 := Fin.ext (by omega)
  subst hz
  pointwise
  simp only [laneMask_at, select_bool, h]
  generalize (192 * (i 1).val + 96 * t.val + 32 * kk.val) % 128 = m
  by_cases hl : m ≤ l.val ∧ l.val < m + 32
  · rw [if_pos hl, Finset.sum_eq_single (⟨l.val - m, by omega⟩ : Fin 32)]
    · rw [if_pos (by show l.val = m + (l.val - m); omega)]
    · intro x _ hx; rw [if_neg]; intro e; exact hx (Fin.ext (by show x.val = l.val - m; omega))
    · intro hx; exact absurd (Finset.mem_univ _) hx
  · rw [if_neg hl, Finset.sum_eq_zero]
    · exact add_zero _
    · intro x _; rw [if_neg]; intro e; exact hl (by have := x.isLt; omega)

end Cert.KernelIdeal.Values
-- ==== Proof.Moves.lean ====
/-
  One trip of the loop, phase by phase, as statements on the contents of the buffers. This file: reads and writes of a rectangle at
  an index; steps in a row by an invariant; the two phases that move words, from a window into a working array and back.
-/
module

public import proofs.«01_k».proof.Proof.Spec
public import proofs.«01_k».proof.Proof.Hoare

@[expose] public section

set_option maxRecDepth 16384

noncomputable section

namespace Cert.KernelIdeal.Values

open Idealize.ShloMosaic Idealize.ShloMosaic.TcCoe Cert.Hoare
open Idealize.SL Idealize.SL.RA Idealize.SL.BI
open scoped Idealize.SL.BI
open Idealize.SL.BI.BIBase Idealize.SL.BI.Laws Idealize.SL.ProofMode Idealize.SL.Sem

/-- An array read at an index with the coordinates `i`, `j`. -/
theorem at2_of {α : Type} {a b : Nat} [NeZero a] [NeZero b] (X : (⟨2, ![a, b]⟩ : Shape).Idx → α) (y : (⟨2, ![a, b]⟩ : Shape).Idx) {i j : Nat}
    (h0 : (y 0).val = i) (h1 : (y 1).val = j) : X y = at2 X i j := by
  subst h0 h1
  exact (congrArg X (eq_ix2 y)).trans (at2_eq X _ _)

/-- An array read at an index with the coordinates `i`, `j`, `k`. -/
theorem at3_of {α : Type} {a b c : Nat} [NeZero a] [NeZero b] [NeZero c] (X : (⟨3, ![a, b, c]⟩ : Shape).Idx → α) (y : (⟨3, ![a, b, c]⟩ : Shape).Idx) {i j k : Nat}
    (h0 : (y 0).val = i) (h1 : (y 1).val = j) (h2 : (y 2).val = k) : X y = at3 X i j k := by
  subst h0 h1 h2
  exact (congrArg X (eq_ix3 y)).trans (at3_eq X _ _ _)

/-- A rectangle's payload laid over an array, at an index of the rectangle. -/
theorem overlay_hit {s : Shape} {α : Type} (r : Rect s) (X : s.Idx → α) (G : r.shape.Idx → α) (y : s.Idx) (x : r.shape.Idx)
    (h : ∀ a, (y a : Nat) = r.off a + r.stride a * x a) : r.overlay X G y = G x := by
  have e : y = r.emb x := funext fun a => Fin.ext (h a)
  rw [e, Rect.overlay_emb]

/-- A rectangle's payload laid over an array, at an index outside it. -/
theorem overlay_miss {s : Shape} {α : Type} (r : Rect s) (X : s.Idx → α) (G : r.shape.Idx → α) (y : s.Idx) (a : Fin s.rank)
    (h : ∀ j < r.size a, (y a : Nat) ≠ r.off a + r.stride a * j) : r.overlay X G y = X y := by
  refine Rect.overlay_of_not_mem _ _ _ fun hm => ?_
  obtain ⟨j, hj, e⟩ := (r.mem_set.mp hm) a
  exact h j hj e

/-- The memref `M` is one of the family, at `get σ`; put back at `X`, it makes the record `set X σ`. -/
structure At (c : Dev nD) {St : Type} (Held : St → sProp (MT nD τ sig Unit (Elt Ideal) ℕ (UR sig nD τ) ℕ)) {s : Shape} {e : EltTy} (M : Memref sig .tc .vmem s e)
    (get : St → (s.Idx → Elt Ideal e)) (set : (s.Idx → Elt Ideal e) → St → St) : Prop where
  set_get : ∀ σ, set (get σ) σ = σ
  out : ∀ σ, Held σ ⊢ iprop(owns (c : Thread nD τ) M fullShare (get σ) ∗ (∀ X, owns (c : Thread nD τ) M fullShare X -∗ Held (set X σ)))

variable [Facts]
open Facts₀ Facts Trip

variable {defs₀ : Defs nD τ sig (Elt Ideal) Λ₀} {c : Dev nD} {St : Type} {Held : St → sProp (MT nD τ sig Unit (Elt Ideal) ℕ (UR sig nD τ) ℕ)}
variable {s : Shape} {e : EltTy} {M : Memref sig .tc .vmem s e} {get : St → (s.Idx → Elt Ideal e)} {set : (s.Idx → Elt Ideal e) → St → St} {σ : St}

/-- A load of a memref of the family. -/
theorem At.load (L : At c Held M get set) {r : LoadRect s} {hl : M.view.LoadsAt r} {Φ : (r.shape.Idx → Elt Ideal e) → St → Prop}
    (h : Φ (fun j => get σ (r.idx j)) σ) : Runs defs₀ c Held (Prog.lift (.load M r hl)) σ Φ :=
  run_load ⟨get, set, L.set_get, L.out⟩ h

/-- A store into a memref of the family. -/
theorem At.store (L : At c Held M get set) {r : Rect s} {w : r.shape.Idx → Elt Ideal e} {hx : (M.access r).Stores Finset.univ}
    {hm : Finset.univ = Finset.univ ∨ ∀ a, r.stride a = 1} {Φ : PUnit → St → Prop}
    (h : Φ ⟨⟩ (set (r.overlay (get σ) w) σ)) : Runs defs₀ c Held (Prog.lift (.store M r w Finset.univ hx hm)) σ Φ :=
  run_store ⟨get, set, L.set_get, L.out⟩ h

/-- Steps in a row, by an invariant. -/
theorem run_steps {N : Nat} (f : Fin N → P Ideal PUnit) (I : Nat → St → Prop) (hf : ∀ (k : Fin N) σ, I k.val σ → Runs defs₀ c Held (f k) σ fun _ => I (k.val + 1)) :
    ∀ (n s : Nat) (h : s + n ≤ N) (σ : St), I s σ → Runs defs₀ c Held (steps f n s h) σ fun _ => I (s + n)
  | 0, _, _, _, h0 => run_ret h0
  | n + 1, s, h, σ, h0 => by
    refine run_bind (hf ⟨s, by omega⟩ σ h0) fun _ σ' h1 => ?_
    have := run_steps f I hf n (s + 1) (by omega) σ' h1
    rwa [show s + (n + 1) = s + 1 + n by omega]

/-- Steps in a row that carry a value, by an invariant. -/
theorem run_stepsWith {N : Nat} {ρ : Type} (f : Fin N → ρ → P Ideal ρ) (I : Nat → ρ → St → Prop)
    (hf : ∀ (k : Fin N) a σ, I k.val a σ → Runs defs₀ c Held (f k a) σ fun b => I (k.val + 1) b) :
    ∀ (n s : Nat) (h : s + n ≤ N) (a : ρ) (σ : St), I s a σ → Runs defs₀ c Held (stepsWith f n s h a) σ fun b => I (s + n) b
  | 0, _, _, _, _, h0 => run_ret h0
  | n + 1, s, h, a, σ, h0 => by
    refine run_bind (hf ⟨s, by omega⟩ a σ h0) fun b σ' h1 => ?_
    have := run_stepsWith f I hf n (s + 1) (by omega) b σ' h1
    rwa [show s + (n + 1) = s + 1 + n by omega]

/-! ## Where the words go -/

/-- A working array's row is one that the word row `colOf / 2` fills, with its low half when `colOf` is even and its high half when odd. -/
theorem row_from : ∀ r : Fin 1536, colOf r (r / 96) / 2 < 96 ∧
    (colOf r (r / 96) % 2 = 0 → r.val = evenRow (colOf r (r / 96) / 2) + 12 * (r % 96 / 12)) ∧
    (colOf r (r / 96) % 2 = 1 → r.val = oddRow (colOf r (r / 96) / 2) + 12 * (r % 96 / 12)) := by decide +kernel

/-- Where the eight rows of an even half come from. -/
theorem even_to : ∀ (s : Fin 96) (k : Fin 8), colOf (evenRow s + 12 * k) ((evenRow s + 12 * k) / 96) = 2 * s ∧ (evenRow s + 12 * k) % 96 / 12 = k := by decide +kernel
/-- And those of an odd half. -/
theorem odd_to : ∀ (s : Fin 96) (k : Fin 8), colOf (oddRow s + 12 * k) ((oddRow s + 12 * k) / 96) = 2 * s + 1 ∧ (oddRow s + 12 * k) % 96 / 12 = k := by decide +kernel

/-- Where the words of a step lie in the window. -/
theorem wordOff_eq : ∀ (t : Fin k0_t1_loop.trips) (s : Fin 96), wordOff t s 0 = 8 * t.val ∧ wordOff t s 1 = 2 * s.val ∧ wordOff t s 2 = 0 := by decide +kernel

/-- What row `r` of a working array receives at trip `t`. -/
def spread (W : Vec Ideal S16x200x128 .bf16) (t r l : Nat) : EReal := elem W (96 * t + r % 96) (r / 96 * 128 + l)

/-- In terms of the window's own coordinates. -/
theorem spread_eq (W : Vec Ideal S16x200x128 .bf16) (t : Nat) (r l : Nat) (hl : l < 128) :
    spread W t r l = at3 W (8 * t + r % 96 / 12) (colOf r (r / 96)) l := by
  unfold spread elem
  have h1 : (96 * t + r % 96) / 12 = 8 * t + r % 96 / 12 := by omega
  have h2 : (r / 96 * 128 + l) / 128 = r / 96 := by omega
  have h3 : (r / 96 * 128 + l) % 128 = l := by omega
  have h4 : colOf (96 * t + r % 96) (r / 96) = colOf r (r / 96) := by
    unfold colOf
    have : (96 * t + r % 96) % 12 = r % 12 := by omega
    rw [this]
  rw [h1, h2, h3, h4]

/-- A window's word rows read at an index. -/
theorem word_at (W : Vec Ideal S16x200x128 .bf16) (t : Fin k0_t1_loop.trips) (s : Fin 96) (k : Fin 8) (p : Fin 2) (l : Fin 128) :
    W ((wordRect t s).toLoadRect.idx (ix3 k p l)) = at3 W (8 * t.val + k.val) (2 * s.val + p.val) l.val := by
  obtain ⟨h0, h1, h2⟩ := wordOff_eq t s
  refine at3_of W _ ?_ ?_ ?_
  · show wordOff t s 0 + 1 * k.val = _; omega
  · show wordOff t s 1 + 1 * p.val = _; omega
  · show wordOff t s 2 + 1 * l.val = _; omega

/-- Eight rows laid over a working array, at an index. -/
theorem every12_hit (r0 : Nat) (h : r0 + 84 < 1536) (X : Vec Ideal S1536x128 .f32) (G : Vec Ideal S8x128 .f32) (r : Fin 1536) (l : Fin 128) (k : Fin 8)
    (hr : r.val = r0 + 12 * k.val) : (⟨every12 r0 h, spos_12_1⟩ : Rect S1536x128).overlay X G (ix2 r l) = G (ix2 k l) := by
  refine overlay_hit (⟨every12 r0 h, spos_12_1⟩ : Rect S1536x128) X G _ (ix2 k l) fun a => ?_
  fin_cases a
  · exact hr
  · show l.val = 0 + 1 * l.val; omega

/-- A store of eight rows leaves the others. -/
theorem every12_miss (r0 : Nat) (h : r0 + 84 < 1536) (X : Vec Ideal S1536x128 .f32) (G : Vec Ideal S8x128 .f32) (r : Fin 1536) (l : Fin 128)
    (hr : ∀ k < 8, r.val ≠ r0 + 12 * k) : (⟨every12 r0 h, spos_12_1⟩ : Rect S1536x128).overlay X G (ix2 r l) = X (ix2 r l) :=
  overlay_miss _ _ _ _ 0 fun j hj => hr j hj

/-! ## Into the working arrays -/

section Scatter
variable {src : Memref sig .tc .vmem S16x200x128 .bf16} {dst : Memref sig .tc .vmem S1536x128 .f32}
  {gs : St → Vec Ideal S16x200x128 .bf16} {ss : Vec Ideal S16x200x128 .bf16 → St → St} {gd : St → Vec Ideal S1536x128 .f32} {sd : Vec Ideal S1536x128 .f32 → St → St}

/-- One piece put down. -/
theorem run_place (L : At c Held dst gd sd) (r : Nat) (h : r + 84 < 1536) (v : FVec Ideal S8x128 .bf16) (σ : St) :
    Runs defs₀ c Held (place dst r h v) σ fun _ σ' => σ' = sd ((⟨every12 r h, spos_12_1⟩ : Rect S1536x128).overlay (gd σ) v) σ := by
  refine run_bind (L.load (Φ := fun _ σ' => σ' = σ) rfl) fun _ σ' e => ?_
  subst e
  refine L.store ?_
  have : (shapeCast S8x128 (extf .f32 v : FVec Ideal S8x128 .f32) shapeCasts_S8x128_S8x128 : Vec Ideal S8x128 .f32) = v := by
    funext j
    idx_vars j
    pointwise
  rw [this]

/-- A word row taken apart: the rows it fills hold what they are to receive, and the rest is as it was. -/
theorem run_scatter (Ls : At c Held src gs ss) (L : At c Held dst gd sd) (h1 : ∀ X σ, gd (sd X σ) = X) (h2 : ∀ X Y σ, sd X (sd Y σ) = sd X σ)
    (t : Fin k0_t1_loop.trips) (s : Fin 96) (σ : St) :
    Runs defs₀ c Held (scatter src dst t s) σ fun _ σ' => ∃ X, σ' = sd X σ ∧
      ∀ (r : Fin 1536) (l : Fin 128), X (ix2 r l) = if colOf r (r / 96) / 2 = s.val then spread (gs σ) t r l else gd σ (ix2 r l) := by
  refine run_bind (Ls.load (Φ := fun a σ' => (a : Vec Ideal S8x2x128 .bf16) = (fun j => gs σ ((wordRect t s).toLoadRect.idx j)) ∧ σ' = σ) ⟨rfl, rfl⟩) fun raw σ' e => ?_
  obtain ⟨e1, rfl⟩ := e
  refine run_bind (run_place L _ (evenRow_lt s) _ _) fun _ σ1 e => ?_
  subst e
  refine run_mono (run_place L _ (oddRow_lt s) _ _) fun _ σ2 e => ?_
  subst e
  rw [h1, h2]
  refine ⟨_, rfl, fun r l => ?_⟩
  have hv : ∀ (p : Nat) (hp : p < 2) (k : Fin 8), half p hp raw (ix2 k l) = at3 (gs σ') (8 * t.val + k.val) (2 * s.val + p) l.val := by
    intro p hp k
    rw [half_at, e1]
    exact word_at (gs σ') t s k ⟨p, hp⟩ l
  obtain ⟨hlt, hE, hO⟩ := row_from r
  have hk : r.val % 96 / 12 < 8 := by omega
  by_cases hs : colOf r (r / 96) / 2 = s.val
  · rw [if_pos hs, spread_eq _ _ _ _ l.isLt]
    rw [hs] at hE hO
    rcases Nat.mod_two_eq_zero_or_one (colOf r (r / 96)) with h0 | h0
    · rw [every12_miss, every12_hit _ _ _ _ r l ⟨_, hk⟩ (hE h0), hv]
      · congr 1; omega
      · intro k hk' e
        have := (odd_to s ⟨k, hk'⟩).1
        rw [← e] at this; omega
    · rw [every12_hit _ _ _ _ r l ⟨_, hk⟩ (hO h0), hv]
      congr 1; omega
  · rw [if_neg hs, every12_miss, every12_miss]
    · intro k hk' e
      have := (even_to s ⟨k, hk'⟩).1
      rw [← e] at this; omega
    · intro k hk' e
      have := (odd_to s ⟨k, hk'⟩).1
      rw [← e] at this; omega
end Scatter

/-! ## Out of the working array -/

section Gather
variable {src : Memref sig .tc .vmem S1536x128 .f32} {dst : Memref sig .tc .vmem S16x200x128 .bf16}
  {gd : St → Vec Ideal S16x200x128 .bf16} {sd : Vec Ideal S16x200x128 .bf16 → St → St} {gs : St → Vec Ideal S1536x128 .f32} {ss : Vec Ideal S1536x128 .f32 → St → St}

/-- The block of a group that holds chunk place `u / 8` of row `u % 8`, and the chunk of the block that it is. -/
def backR (u : Nat) : Nat := (u % 8 * 24 + u / 8) / 16
/-- The chunk of a block in which row `u` of words ends. -/
def backC (u : Nat) : Nat := (u % 8 * 24 + u / 8) % 16

/-- The eight rows that a step gathers to its even half. -/
theorem back_even : ∀ (s : Fin 96) (k : Fin 8), evenRow s + 12 * k = backC (2 * s) * 96 + 12 * k + backR (2 * s) := by decide +kernel
/-- And to its odd half. -/
theorem back_odd : ∀ (s : Fin 96) (k : Fin 8), oddRow s + 12 * k = backC (2 * s + 1) * 96 + 12 * k + backR (2 * s + 1) := by decide +kernel

/-- Eight rows of a working array read at an index. -/
theorem every12_at (r0 : Nat) (h : r0 + 84 < 1536) (X : Vec Ideal S1536x128 .f32) (k : Fin 8) (l : Fin 128) :
    X ((every12 r0 h).idx (ix2 k l)) = at2 X (r0 + 12 * k.val) l.val := by
  refine at2_of X _ rfl ?_
  show 0 + 1 * l.val = _; omega

/-- A word row put together. -/
theorem run_gather (Ls : At c Held src gs ss) (L : At c Held dst gd sd) (hdst : dst.IsWhole) (t : Fin k0_t1_loop.trips) (s : Fin 96) (σ : St) :
    Runs defs₀ c Held (gather src dst hdst t s) σ fun _ σ' => ∃ X, σ' = sd X σ ∧
      ∀ (k : Fin 16) (u : Fin 200) (l : Fin 128), X (ix3 k u l) =
        if k.val / 8 = t.val ∧ u.val / 2 = s.val then at2 (gs σ) (backC u * 96 + 12 * (k % 8) + backR u) l else gd σ (ix3 k u l) := by
  refine run_bind (Ls.load (Φ := fun a σ' => (a : Vec Ideal S8x128 .f32) = (fun j => gs σ ((every12 (evenRow s) (evenRow_lt s)).idx j)) ∧ σ' = σ) ⟨rfl, rfl⟩) fun lo σ' e => ?_
  obtain ⟨elo, rfl⟩ := e
  refine run_bind (Ls.load (Φ := fun a σ2 => (a : Vec Ideal S8x128 .f32) = (fun j => gs σ' ((every12 (oddRow s) (oddRow_lt s)).idx j)) ∧ σ2 = σ') ⟨rfl, rfl⟩) fun hi σ2 e => ?_
  obtain ⟨ehi, rfl⟩ := e
  refine run_bind (L.load (Φ := fun _ σ3 => σ3 = σ2) rfl) fun _ σ3 e => ?_
  subst e
  refine L.store ⟨_, rfl, fun k u l => ?_⟩
  obtain ⟨h0, h1, h2⟩ := wordOff_eq t s
  have ht := trip_lt t
  by_cases hc : k.val / 8 = t.val ∧ u.val / 2 = s.val
  · obtain ⟨hk, hu⟩ := hc
    rw [if_pos ⟨hk, hu⟩, overlay_hit (wordRect t s) _ _ _ (ix3 (⟨k.val % 8, by omega⟩ : Fin 8) (⟨u.val % 2, by omega⟩ : Fin 2) l), words_at, elo, ehi]
    · rcases Nat.mod_two_eq_zero_or_one u.val with hp | hp
      · rw [if_pos hp]
        refine (every12_at _ (evenRow_lt s) _ ⟨k.val % 8, by omega⟩ l).trans ?_
        rw [back_even s ⟨k.val % 8, by omega⟩]
        have : 2 * s.val = u.val := by omega
        rw [this]
      · rw [if_neg (by show ¬ u.val % 2 = 0; omega)]
        refine (every12_at _ (oddRow_lt s) _ ⟨k.val % 8, by omega⟩ l).trans ?_
        rw [back_odd s ⟨k.val % 8, by omega⟩]
        have : 2 * s.val + 1 = u.val := by omega
        rw [this]
    · intro a
      fin_cases a
      · show k.val = wordOff t s 0 + 1 * (k.val % 8); omega
      · show u.val = wordOff t s 1 + 1 * (u.val % 2); omega
      · show l.val = wordOff t s 2 + 1 * l.val; omega
  · rw [if_neg hc]
    by_cases hk : k.val / 8 = t.val
    · refine overlay_miss _ _ _ _ 1 fun j hj => ?_
      show u.val ≠ wordOff t s 1 + 1 * j
      have : j < 2 := hj
      intro e; exact hc ⟨hk, by omega⟩
    · refine overlay_miss _ _ _ _ 0 fun j hj => ?_
      show k.val ≠ wordOff t s 0 + 1 * j
      have : j < 8 := hj
      intro e; omega
end Gather

end Cert.KernelIdeal.Values
-- ==== Proof.Tiles.lean ====
/-
  One tile of 32 blocks, as a statement on the contents of the buffers: the step of each of its 16 chunks with the running maxima,
  then, for each moment, the scales added to their row and the codes stored.
-/
module

public import proofs.«01_k».proof.Proof.Moves

@[expose] public section

set_option maxRecDepth 16384

noncomputable section

namespace Cert.KernelIdeal.Values

open Idealize.ShloMosaic Idealize.ShloMosaic.TcCoe Cert.Hoare
open Idealize.SL Idealize.SL.RA Idealize.SL.BI
open scoped Idealize.SL.BI
open Idealize.SL.BI.BIBase Idealize.SL.BI.Laws Idealize.SL.ProofMode Idealize.SL.Sem

variable [Facts]
open Facts₀ Facts Trip

/-! ## A tile's rectangles -/

/-- Where a chunk's codes lie in the window. -/
theorem codeOff_eq : ∀ (t : Fin k0_t1_loop.trips) (kk : Fin 3) (c : Fin 16), codeOff t kk c 0 = 0 ∧ codeOff t kk c 1 = 96 * t.val + 32 * kk.val ∧ codeOff t kk c 2 = 128 * c.val := by
  decide +kernel

/-- The row in which a tile's scales lie. -/
theorem scaleOff_eq : ∀ (i : grid0.Coords) (t : Fin k0_t1_loop.trips) (kk : Fin 3),
    k0_off98 i t (BitVec.ofNat 32 kk.val) 0 = (192 * (i 1).val + 96 * t.val + 32 * kk.val) / 128 * 4 + (i 0).val ∧ k0_off98 i t (BitVec.ofNat 32 kk.val) 1 = 0 := by
  decide +kernel

/-- A chunk's rows laid over a working array. -/
theorem rows_overlay (kk : Fin 3) (c : Fin 16) (X : Vec Ideal S1536x128 .f32) (G : Vec Ideal S32x128 .f32) (r : Fin 1536) (l : Fin 128) :
    (rowsRect kk c).overlay X G (ix2 r l) = if r.val % 96 / 32 = kk.val ∧ r.val / 96 = c.val then G (ix2 (⟨r.val % 32, by omega⟩ : Fin 32) l) else X (ix2 r l) := by
  by_cases h : r.val % 96 / 32 = kk.val ∧ r.val / 96 = c.val
  · rw [if_pos h]
    refine overlay_hit (rowsRect kk c) X G _ (ix2 (⟨r.val % 32, by omega⟩ : Fin 32) l) fun a => ?_
    fin_cases a
    · show r.val = (c.val * 96 + kk.val * 32) + 1 * (r.val % 32); omega
    · show l.val = 0 + 1 * l.val; omega
  · rw [if_neg h]
    refine overlay_miss _ _ _ _ 0 fun j hj => ?_
    show r.val ≠ (c.val * 96 + kk.val * 32) + 1 * j
    have : j < 32 := hj
    omega

/-- A chunk's rows read. -/
theorem rows_at (kk : Fin 3) (c : Fin 16) (X : Vec Ideal S1536x128 .f32) (q : Fin 32) (l : Fin 128) (h : c.val * 96 + kk.val * 32 + q.val < 1536) :
    X ((rowsRect kk c).toLoadRect.idx (ix2 q l)) = X (ix2 ⟨c.val * 96 + kk.val * 32 + q.val, h⟩ l) := by
  refine congrArg X (funext fun a => Fin.ext ?_)
  fin_cases a
  · show (c.val * 96 + kk.val * 32) + 1 * q.val = c.val * 96 + kk.val * 32 + q.val; omega
  · show 0 + 1 * l.val = l.val; omega

/-- A chunk's codes laid over a window of codes. -/
theorem codes_overlay (t : Fin k0_t1_loop.trips) (kk : Fin 3) (c : Fin 16) (X : Vec Ideal S1x192x2048 .fp8e4m3) (G : Vec Ideal S1x32x128 .fp8e4m3) (z : Fin 1) (R : Fin 192) (e : Fin 2048) :
    (codeRect t kk c).overlay X G (ix3 z R e) = if R.val / 32 = 3 * t.val + kk.val ∧ e.val / 128 = c.val then G (ix3 (0 : Fin 1) (⟨R.val % 32, by omega⟩ : Fin 32) (⟨e.val % 128, by omega⟩ : Fin 128)) else X (ix3 z R e) := by
  obtain ⟨h0, h1, h2⟩ := codeOff_eq t kk c
  by_cases h : R.val / 32 = 3 * t.val + kk.val ∧ e.val / 128 = c.val
  · rw [if_pos h]
    refine overlay_hit (codeRect t kk c) X G _ (ix3 (0 : Fin 1) (⟨R.val % 32, by omega⟩ : Fin 32) (⟨e.val % 128, by omega⟩ : Fin 128)) fun a => ?_
    fin_cases a
    · show z.val = codeOff t kk c 0 + 1 * 0; omega
    · show R.val = codeOff t kk c 1 + 1 * (R.val % 32); omega
    · show e.val = codeOff t kk c 2 + 1 * (e.val % 128); omega
  · rw [if_neg h]
    by_cases hR : R.val / 32 = 3 * t.val + kk.val
    · refine overlay_miss _ _ _ _ 2 fun j hj => ?_
      show e.val ≠ codeOff t kk c 2 + 1 * j
      have : j < 128 := hj
      omega
    · refine overlay_miss _ _ _ _ 1 fun j hj => ?_
      show R.val ≠ codeOff t kk c 1 + 1 * j
      have : j < 32 := hj
      omega

/-- A chunk's codes read. -/
theorem codes_at (t : Fin k0_t1_loop.trips) (kk : Fin 3) (c : Fin 16) (X : Vec Ideal S1x192x2048 .fp8e4m3) (q : Fin 32) (l : Fin 128) :
    X ((codeRect t kk c).toLoadRect.idx (ix3 (0 : Fin 1) q l)) = at3 X 0 (96 * t.val + 32 * kk.val + q.val) (c.val * 128 + l.val) := by
  obtain ⟨h0, h1, h2⟩ := codeOff_eq t kk c
  refine at3_of X _ ?_ ?_ ?_
  · show codeOff t kk c 0 + 1 * 0 = _; omega
  · show codeOff t kk c 1 + 1 * q.val = _; omega
  · show codeOff t kk c 2 + 1 * l.val = _; omega

/-- A row of scales laid over the scales. -/
theorem scales_overlay (i : grid0.Coords) (t : Fin k0_t1_loop.trips) (kk : Fin 3) (X : Vec Ideal S24x128 .f32) (G : Vec Ideal S1x128 .f32) (a : Fin 24) (l : Fin 128) :
    (scaleRect i t kk).overlay X G (ix2 a l) = if a.val = (192 * (i 1).val + 96 * t.val + 32 * kk.val) / 128 * 4 + (i 0).val then G (ix2 (0 : Fin 1) l) else X (ix2 a l) := by
  obtain ⟨h0, h1⟩ := scaleOff_eq i t kk
  by_cases h : a.val = (192 * (i 1).val + 96 * t.val + 32 * kk.val) / 128 * 4 + (i 0).val
  · rw [if_pos h]
    refine overlay_hit (scaleRect i t kk) X G _ (ix2 (0 : Fin 1) l) fun b => ?_
    fin_cases b
    · show a.val = k0_off98 i t (BitVec.ofNat 32 kk.val) 0 + 1 * 0; omega
    · show l.val = k0_off98 i t (BitVec.ofNat 32 kk.val) 1 + 1 * l.val; omega
  · rw [if_neg h]
    refine overlay_miss _ _ _ _ 0 fun j hj => ?_
    show a.val ≠ k0_off98 i t (BitVec.ofNat 32 kk.val) 0 + 1 * j
    have : j < 1 := hj
    omega

/-- A row of scales read. -/
theorem scales_at (i : grid0.Coords) (t : Fin k0_t1_loop.trips) (kk : Fin 3) (X : Vec Ideal S24x128 .f32) (l : Fin 128) :
    X ((scaleRect i t kk).toLoadRect.idx (ix2 (0 : Fin 1) l)) = at2 X ((192 * (i 1).val + 96 * t.val + 32 * kk.val) / 128 * 4 + (i 0).val) l.val := by
  obtain ⟨h0, h1⟩ := scaleOff_eq i t kk
  refine at2_of X _ ?_ ?_
  · show k0_off98 i t (BitVec.ofNat 32 kk.val) 0 + 1 * 0 = _; omega
  · show k0_off98 i t (BitVec.ofNat 32 kk.val) 1 + 1 * l.val = _; omega

/-- A tile's column of scales: each block's. -/
theorem scaleCol_eq (i : grid0.Coords) (t : Fin k0_t1_loop.trips) (kk : Fin 3) (X : Vec Ideal S24x128 .f32) (q : Fin 32) :
    scaleCol (F := Ideal) (laneMask i t kk) (fun j => X ((scaleRect i t kk).toLoadRect.idx j)) (ix2 q 0) = scaleAt X (i 0).val (i 1).val (96 * t.val + 32 * kk.val + q.val) := by
  rw [scaleCol_at]
  have hm : (192 * (i 1).val + (96 * t.val + 32 * kk.val + q.val)) % 128 < 128 := Nat.mod_lt _ (by omega)
  refine (at2_eq (fun j => X ((scaleRect i t kk).toLoadRect.idx j)) (0 : Fin 1) ⟨_, hm⟩).symm.trans ?_
  refine (scales_at i t kk X ⟨_, hm⟩).trans ?_
  unfold scaleAt
  have : (192 * (i 1).val + 96 * t.val + 32 * kk.val) / 128 = (192 * (i 1).val + (96 * t.val + 32 * kk.val + q.val)) / 128 := by omega
  rw [this]

variable {defs₀ : Defs nD τ sig (Elt Ideal) Λ₀} {c : Dev nD}

/-! ## The codes and the scales of one moment -/

section Quantise
variable {St : Type} {Held : St → sProp (MT nD τ sig Unit (Elt Ideal) ℕ (UR sig nD τ) ℕ)}
  {scales : Memref sig .tc .vmem S24x128 .f32} {src : Memref sig .tc .vmem S1536x128 .f32} {dst : Memref sig .tc .vmem S1x192x2048 .fp8e4m3}
  {ga : St → Vec Ideal S24x128 .f32} {sa : Vec Ideal S24x128 .f32 → St → St} {gs : St → Vec Ideal S1536x128 .f32} {ss : Vec Ideal S1536x128 .f32 → St → St}
  {gd : St → Vec Ideal S1x192x2048 .fp8e4m3} {sd : Vec Ideal S1x192x2048 .fp8e4m3 → St → St}

/-- One chunk's codes. -/
theorem run_codeChunk (Ls : At c Held src gs ss) (Ld : At c Held dst gd sd) (hdst : dst.IsWhole) (t : Fin k0_t1_loop.trips) (kk : Fin 3) (inv : FVec Ideal S32x128 .f32) (ch : Fin 16)
    (f : Nat → Nat → EReal) (σ : St) (hs : ∀ (r : Fin 1536) (l : Fin 128), r.val % 96 / 32 = kk.val → gs σ (ix2 r l) = f (96 * t.val + r.val % 96) (r.val / 96 * 128 + l.val))
    (hi : ∀ (q : Fin 32) (l : Fin 128), inv (ix2 q l) = inverseOf (ratioOf (f (96 * t.val + 32 * kk.val + q.val)))) :
    Runs defs₀ c Held (codeChunk src dst hdst t kk inv ch) σ fun _ σ' => ∃ D, σ' = sd D σ ∧ ∀ (z : Fin 1) (R : Fin 192) (e : Fin 2048),
      D (ix3 z R e) = if R.val / 32 = 3 * t.val + kk.val ∧ e.val / 128 = ch.val then codeOf (f R e) (inverseOf (ratioOf (f R))) else gd σ (ix3 z R e) := by
  refine run_bind (Ls.load (Φ := fun a σ' => (a : Vec Ideal S32x128 .f32) = (fun j => gs σ ((rowsRect kk ch).toLoadRect.idx j)) ∧ σ' = σ) ⟨rfl, rfl⟩) fun x σ' e => ?_
  obtain ⟨ex, rfl⟩ := e
  refine run_bind (Ld.load (Φ := fun _ σ2 => σ2 = σ') rfl) fun _ σ2 e => ?_
  subst e
  refine Ld.store ⟨_, rfl, fun z R e => ?_⟩
  refine (codes_overlay t kk ch _ _ z R e).trans ?_
  by_cases h : R.val / 32 = 3 * t.val + kk.val ∧ e.val / 128 = ch.val
  · rw [if_pos h, if_pos h, codesOf_at, hi, ex]
    have hb : ch.val * 96 + kk.val * 32 + R.val % 32 < 1536 := by omega
    have hr := rows_at kk ch (gs σ2) ⟨R.val % 32, by omega⟩ ⟨e.val % 128, by omega⟩ hb
    have e1 : 96 * t.val + (ch.val * 96 + kk.val * 32 + R.val % 32) % 96 = R.val := by omega
    have e2 : (ch.val * 96 + kk.val * 32 + R.val % 32) / 96 * 128 + e.val % 128 = e.val := by omega
    have e3 : 96 * t.val + 32 * kk.val + R.val % 32 = R.val := by omega
    have hv := hs ⟨_, hb⟩ ⟨e.val % 128, by omega⟩ (by show (ch.val * 96 + kk.val * 32 + R.val % 32) % 96 / 32 = kk.val; omega)
    have hv' := hr.trans hv
    simp only [e1, e2] at hv'
    simp only [e3]
    exact congrArg (fun y => codeOf y (inverseOf (ratioOf (f R.val)))) hv'
  · rw [if_neg h, if_neg h]

/-- One moment of a tile put away: its blocks' scales added in their lanes, its blocks' codes stored. -/
theorem run_quantise (La : At c Held scales ga sa) (Ls : At c Held src gs ss) (Ld : At c Held dst gd sd) (hdst : dst.IsWhole)
    (has : ∀ X σ, gs (sa X σ) = gs σ) (had : ∀ X σ, gd (sa X σ) = gd σ) (hds : ∀ X σ, gs (sd X σ) = gs σ) (hdd : ∀ X σ, gd (sd X σ) = X) (hd2 : ∀ X Y σ, sd X (sd Y σ) = sd X σ)
    (i : grid0.Coords) (t : Fin k0_t1_loop.trips) (kk : Fin 3) (mx : FVec Ideal S32x128 .f32)
    (f : Nat → Nat → EReal) (σ : St) (hs : ∀ (r : Fin 1536) (l : Fin 128), r.val % 96 / 32 = kk.val → gs σ (ix2 r l) = f (96 * t.val + r.val % 96) (r.val / 96 * 128 + l.val))
    (hm : ∀ (q : Fin 32) (l : Fin 128), mx (ix2 q l) = runMax (fun ch => f (96 * t.val + 32 * kk.val + q.val) (ch * 128 + l.val)) 16) :
    Runs defs₀ c Held (quantise scales src dst hdst i t kk mx) σ fun _ σ' => ∃ A D, σ' = sd D (sa A σ) ∧
      (∀ (a : Fin 24) (l : Fin 128), A (ix2 a l) =
        if a.val % 4 = (i 0).val ∧ 192 * (i 1).val + 96 * t.val + 32 * kk.val ≤ a.val / 4 * 128 + l.val ∧ a.val / 4 * 128 + l.val < 192 * (i 1).val + 96 * t.val + 32 * kk.val + 32 then
          (ga σ (ix2 a l) : EReal) + scaleOf (ratioOf (f (a.val / 4 * 128 + l.val - 192 * (i 1).val))) else ga σ (ix2 a l)) ∧
      (∀ (z : Fin 1) (R : Fin 192) (e : Fin 2048),
        D (ix3 z R e) = if R.val / 32 = 3 * t.val + kk.val then codeOf (f R e) (inverseOf (ratioOf (f R))) else gd σ (ix3 z R e)) := by
  have hi0 : (i 0).val < 4 := (i 0).isLt
  have hr : ∀ (q : Fin 32) (l : Fin 128), ratio mx (ix2 q l) = ratioOf (f (96 * t.val + 32 * kk.val + q.val)) := fun q l => ratio_at mx _ q l (hm q)
  refine run_bind (Ψ := fun _ σ' => ∃ A, σ' = sa A σ ∧ ∀ (a : Fin 24) (l : Fin 128), A (ix2 a l) =
        if a.val % 4 = (i 0).val ∧ 192 * (i 1).val + 96 * t.val + 32 * kk.val ≤ a.val / 4 * 128 + l.val ∧ a.val / 4 * 128 + l.val < 192 * (i 1).val + 96 * t.val + 32 * kk.val + 32 then
          (ga σ (ix2 a l) : EReal) + scaleOf (ratioOf (f (a.val / 4 * 128 + l.val - 192 * (i 1).val))) else ga σ (ix2 a l)) ?_ fun _ σ1 h1 => ?_
  · refine run_bind (La.load (Φ := fun a σ' => (a : Vec Ideal S1x128 .f32) = (fun j => ga σ ((scaleRect i t kk).toLoadRect.idx j)) ∧ σ' = σ) ⟨rfl, rfl⟩) fun old σ' e => ?_
    obtain ⟨eo, rfl⟩ := e
    refine run_bind (La.load (Φ := fun _ σ2 => σ2 = σ') rfl) fun _ σ2 e => ?_
    subst e
    refine La.store ⟨_, rfl, fun a l => ?_⟩
    refine (scales_overlay i t kk _ _ a l).trans ?_
    rw [scaleRow_at i t kk _ (fun q => scaleOf (ratioOf (f (96 * t.val + 32 * kk.val + q)))) old 0 l (fun q l => by rw [scale_at, hr])]
    have ho : (old (ix2 0 l) : EReal) = at2 (ga σ2) ((192 * (i 1).val + 96 * t.val + 32 * kk.val) / 128 * 4 + (i 0).val) l.val := by
      rw [eo]; exact scales_at i t kk (ga σ2) l
    by_cases ha : a.val = (192 * (i 1).val + 96 * t.val + 32 * kk.val) / 128 * 4 + (i 0).val
    · have ho' : (old (ix2 0 l) : EReal) = ga σ2 (ix2 a l) := by rw [ho, ← ha]; exact (at2_eq (ga σ2) a l).symm
      rw [if_pos ha, ho']
      by_cases hl : (192 * (i 1).val + 96 * t.val + 32 * kk.val) % 128 ≤ l.val ∧ l.val < (192 * (i 1).val + 96 * t.val + 32 * kk.val) % 128 + 32
      · rw [if_pos hl, if_pos (by omega)]
        have : 96 * t.val + 32 * kk.val + (l.val - (192 * (i 1).val + 96 * t.val + 32 * kk.val) % 128) = a.val / 4 * 128 + l.val - 192 * (i 1).val := by omega
        rw [this]
      · rw [if_neg hl, if_neg (by omega)]
    · rw [if_neg ha, if_neg (by omega)]
  · obtain ⟨A, rfl, hA⟩ := h1
    have hs1 : ∀ (r : Fin 1536) (l : Fin 128), r.val % 96 / 32 = kk.val → gs (sa A σ) (ix2 r l) = f (96 * t.val + r.val % 96) (r.val / 96 * 128 + l.val) := by
      intro r l h; rw [has]; exact hs r l h
    have hinv : ∀ (q : Fin 32) (l : Fin 128), inverse (ratio mx) (ix2 q l) = inverseOf (ratioOf (f (96 * t.val + 32 * kk.val + q.val))) := by
      intro q l; rw [inverse_at, hr]
    refine run_mono (run_steps _ (fun n σ' => ∃ D, σ' = sd D (sa A σ) ∧ ∀ (z : Fin 1) (R : Fin 192) (e : Fin 2048),
        D (ix3 z R e) = if R.val / 32 = 3 * t.val + kk.val ∧ e.val / 128 < n then codeOf (f R e) (inverseOf (ratioOf (f R))) else gd σ (ix3 z R e)) ?_ 16 0 _ _ ?_) ?_
    · rintro ch _ ⟨D, rfl, hD⟩
      refine run_mono (run_codeChunk Ls Ld hdst t kk _ ch f _ (fun r l h => by rw [hds]; exact hs1 r l h) hinv) ?_
      rintro _ _ ⟨D', rfl, hD'⟩
      refine ⟨D', hd2 _ _ _, fun z R e => ?_⟩
      rw [hD', hdd, hD]
      by_cases hR : R.val / 32 = 3 * t.val + kk.val
      · by_cases he : e.val / 128 = ch.val
        · rw [if_pos ⟨hR, he⟩, if_pos ⟨hR, by omega⟩]
        · rw [if_neg (fun h => he h.2)]
          by_cases h' : e.val / 128 < ch.val
          · rw [if_pos ⟨hR, h'⟩, if_pos ⟨hR, by omega⟩]
          · rw [if_neg (fun h => h' h.2), if_neg (fun h => by have := h.2; omega)]
      · rw [if_neg (fun h => hR h.1), if_neg (fun h => hR h.1), if_neg (fun h => hR h.1)]
    · exact ⟨gd (sa A σ), (Ld.set_get _).symm, fun z R e => by rw [if_neg (fun h => by have := h.2; omega), had]⟩
    · rintro _ _ ⟨D, rfl, hD⟩
      refine ⟨A, D, rfl, hA, fun z R e => ?_⟩
      rw [hD]
      by_cases hR : R.val / 32 = 3 * t.val + kk.val
      · rw [if_pos ⟨hR, by omega⟩, if_pos hR]
      · rw [if_neg (fun h => hR h.1), if_neg hR]
end Quantise

end Cert.KernelIdeal.Values
-- ==== Proof.Part218.lean ====
/-
  A printed part of the kernel's body, put in terms of the pieces of Trip.lean.
-/
module

public import proofs.«01_k».proof.Proof.Trip

@[expose] public section

set_option maxRecDepth 100000

noncomputable section

namespace Cert.KernelIdeal.Trip

open Idealize.ShloMosaic Idealize.SL.Sem

variable {F : FTy → Type} [FloatOps F] [Facts]
open Facts₀ Facts
variable (i : grid0.Coords) (arg2 : Memref sig .tc .vmem S16x200x128 .bf16) (harg2 : arg2.IsWhole) (arg3 : Memref sig .tc .vmem S16x200x128 .bf16) (harg3 : arg3.IsWhole) (arg4 : Memref sig .tc .vmem S1x192x2048 .fp8e4m3) (harg4 : arg4.IsWhole) (arg5 : Memref sig .tc .vmem S24x128 .f32) (harg5 : arg5.IsWhole) (arg6 : Memref sig .tc .vmem S1x192x2048 .fp8e4m3) (harg6 : arg6.IsWhole) (arg7 : Memref sig .tc .vmem S24x128 .f32) (harg7 : arg7.IsWhole) (arg8 : Memref sig .tc .vmem S16x200x128 .bf16) (harg8 : arg8.IsWhole) (arg9 : Memref sig .tc .vmem S1x192x2048 .fp8e4m3) (harg9 : arg9.IsWhole) (arg10 : Memref sig .tc .vmem S24x128 .f32) (harg10 : arg10.IsWhole) (arg11 : Memref sig .tc .vmem S1x192x2048 .fp8e4m3) (harg11 : arg11.IsWhole) (arg12 : Memref sig .tc .vmem S24x128 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S1536x128 .f32) (harg15 : arg15.IsWhole) (arg16 : Memref sig .tc .vmem S1536x128 .f32) (harg16 : arg16.IsWhole) (k0_t1 : Fin k0_t1_loop.trips)

set_option maxHeartbeats 4000000 in
/-- The first part of a trip: the first 64 words spread out, and the next word read. -/
theorem part218 (k0_t1 : Fin k0_t1_loop.trips) : k0_part218 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 0#32 1#32 k0_t1 = (do
  steps (scatter2 arg2 arg3 arg13 arg14 k0_t1) 64 0 (by omega)
  let raw : Vec F S8x2x128 .bf16 ← Prog.lift (.load arg2 (wordRect k0_t1 ⟨64, by omega⟩).toLoadRect (View.loadsAt_vmem h_S8x2x128))
  pure ⟨Scf.iv 0#32 1#32 k0_t1, half 1 (by omega) raw, half 0 (by omega) raw⟩) := rfl

end Cert.KernelIdeal.Trip
-- ==== Proof.Part219.lean ====
/-
  A printed part of the kernel's body, put in terms of the pieces of Trip.lean.
-/
module

public import proofs.«01_k».proof.Proof.Trip

@[expose] public section

set_option maxRecDepth 100000

noncomputable section

namespace Cert.KernelIdeal.Trip

open Idealize.ShloMosaic Idealize.SL.Sem

variable {F : FTy → Type} [FloatOps F] [Facts]
open Facts₀ Facts
variable (i : grid0.Coords) (arg2 : Memref sig .tc .vmem S16x200x128 .bf16) (harg2 : arg2.IsWhole) (arg3 : Memref sig .tc .vmem S16x200x128 .bf16) (harg3 : arg3.IsWhole) (arg4 : Memref sig .tc .vmem S1x192x2048 .fp8e4m3) (harg4 : arg4.IsWhole) (arg5 : Memref sig .tc .vmem S24x128 .f32) (harg5 : arg5.IsWhole) (arg6 : Memref sig .tc .vmem S1x192x2048 .fp8e4m3) (harg6 : arg6.IsWhole) (arg7 : Memref sig .tc .vmem S24x128 .f32) (harg7 : arg7.IsWhole) (arg8 : Memref sig .tc .vmem S16x200x128 .bf16) (harg8 : arg8.IsWhole) (arg9 : Memref sig .tc .vmem S1x192x2048 .fp8e4m3) (harg9 : arg9.IsWhole) (arg10 : Memref sig .tc .vmem S24x128 .f32) (harg10 : arg10.IsWhole) (arg11 : Memref sig .tc .vmem S1x192x2048 .fp8e4m3) (harg11 : arg11.IsWhole) (arg12 : Memref sig .tc .vmem S24x128 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S1536x128 .f32) (harg15 : arg15.IsWhole) (arg16 : Memref sig .tc .vmem S1536x128 .f32) (harg16 : arg16.IsWhole) (k0_t1 : Fin k0_t1_loop.trips)

set_option maxHeartbeats 4000000 in
theorem part219 (raw : Vec F S8x2x128 .bf16) : k0_part219 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (subi (iota .tc S32x128 32 [1] iota_S32x128_d1_w32) (iota .tc S32x128 32 [0] iota_S32x128_d0_w32)) k0_t1 (Scf.iv 0#32 1#32 k0_t1) (half 1 (by omega) raw) (half 0 (by omega) raw) = (do
  place arg13 (evenRow 64) (evenRow_lt 64) (half 0 (by omega) raw)
  place arg13 (oddRow 64) (oddRow_lt 64) (half 1 (by omega) raw)
  scatter arg3 arg14 k0_t1 64
  steps (scatter2 arg2 arg3 arg13 arg14 k0_t1) 31 65 (by omega)
  let mx ← tileStep arg4 arg6 arg5 arg7 arg13 arg14 arg15 arg16 i k0_t1 0
  quantise arg10 arg15 arg9 harg9 i k0_t1 0 mx.1
  quantiseScale arg12 i k0_t1 0 mx.2
  steps (codeChunk arg16 arg11 harg11 k0_t1 0 (inverse (ratio mx.2))) 6 0 (by omega)
  let x : Vec F S32x128 .f32 ← Prog.lift (.load arg16 (rowsRect 0 6).toLoadRect (View.loadsAt_vmem h_S32x128))
  pure ⟨tileCode k0_t1 0, inverse (ratio mx.2), Scalar.ofBits .f32 0x43E00000#32, maximumf (splat 0xC3E00000#32) (mulf x (inverse (ratio mx.2)))⟩) := rfl

end Cert.KernelIdeal.Trip
-- ==== Proof.Part220.lean ====
/-
  A printed part of the kernel's body, put in terms of the pieces of Trip.lean.
-/
module

public import proofs.«01_k».proof.Proof.Trip

@[expose] public section

set_option maxRecDepth 100000

noncomputable section

namespace Cert.KernelIdeal.Trip

open Idealize.ShloMosaic Idealize.SL.Sem

variable {F : FTy → Type} [FloatOps F] [Facts]
open Facts₀ Facts
variable (i : grid0.Coords) (arg2 : Memref sig .tc .vmem S16x200x128 .bf16) (harg2 : arg2.IsWhole) (arg3 : Memref sig .tc .vmem S16x200x128 .bf16) (harg3 : arg3.IsWhole) (arg4 : Memref sig .tc .vmem S1x192x2048 .fp8e4m3) (harg4 : arg4.IsWhole) (arg5 : Memref sig .tc .vmem S24x128 .f32) (harg5 : arg5.IsWhole) (arg6 : Memref sig .tc .vmem S1x192x2048 .fp8e4m3) (harg6 : arg6.IsWhole) (arg7 : Memref sig .tc .vmem S24x128 .f32) (harg7 : arg7.IsWhole) (arg8 : Memref sig .tc .vmem S16x200x128 .bf16) (harg8 : arg8.IsWhole) (arg9 : Memref sig .tc .vmem S1x192x2048 .fp8e4m3) (harg9 : arg9.IsWhole) (arg10 : Memref sig .tc .vmem S24x128 .f32) (harg10 : arg10.IsWhole) (arg11 : Memref sig .tc .vmem S1x192x2048 .fp8e4m3) (harg11 : arg11.IsWhole) (arg12 : Memref sig .tc .vmem S24x128 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S1536x128 .f32) (harg15 : arg15.IsWhole) (arg16 : Memref sig .tc .vmem S1536x128 .f32) (harg16 : arg16.IsWhole) (k0_t1 : Fin k0_t1_loop.trips)

set_option maxHeartbeats 4000000 in
theorem part220 (x inv : FVec F S32x128 .f32) : k0_part220 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (BitVec.ofNat 32 (i 1).val) (subi (iota .tc S32x128 32 [1] iota_S32x128_d1_w32) (iota .tc S32x128 32 [0] iota_S32x128_d0_w32)) k0_t1 (Scf.iv 0#32 1#32 k0_t1) (tileCode k0_t1 0) inv (Scalar.ofBits .f32 0x43E00000#32) (maximumf (splat 0xC3E00000#32) (mulf x inv)) = (do
  let _ ← Prog.lift (.load arg11 (codeRect k0_t1 0 6).toLoadRect (View.loadsAt_vmem h_S1x32x128))
  Prog.lift (.store arg11 (codeRect k0_t1 0 6) (codesOf x inv) Finset.univ (View.stores_vmem h_S1x32x128 (harg11.storeExact_slice rfl _ (codeRect_packed k0_t1 0 6)) (fun _ => rfl)) (.inl rfl))
  steps (codeChunk arg16 arg11 harg11 k0_t1 0 inv) 9 7 (by omega)
  tile arg4 arg6 arg5 arg7 arg9 harg9 arg10 arg11 harg11 arg12 arg13 arg14 arg15 arg16 i k0_t1 1
  let mx ← tileStep arg4 arg6 arg5 arg7 arg13 arg14 arg15 arg16 i k0_t1 2
  quantiseScale arg10 i k0_t1 2 mx.1
  steps (codeChunk arg15 arg9 harg9 k0_t1 2 (inverse (ratio mx.1))) 4 0 (by omega)
  pure ⟨laneMask i k0_t1 2, tileRow i k0_t1 2, tileCode k0_t1 2, mx.2, inverse (ratio mx.1)⟩) := rfl

end Cert.KernelIdeal.Trip
-- ==== Proof.Part221.lean ====
/-
  A printed part of the kernel's body, put in terms of the pieces of Trip.lean.
-/
module

public import proofs.«01_k».proof.Proof.Trip

@[expose] public section

set_option maxRecDepth 100000

noncomputable section

namespace Cert.KernelIdeal.Trip

open Idealize.ShloMosaic Idealize.SL.Sem

variable {F : FTy → Type} [FloatOps F] [Facts]
open Facts₀ Facts
variable (i : grid0.Coords) (arg2 : Memref sig .tc .vmem S16x200x128 .bf16) (harg2 : arg2.IsWhole) (arg3 : Memref sig .tc .vmem S16x200x128 .bf16) (harg3 : arg3.IsWhole) (arg4 : Memref sig .tc .vmem S1x192x2048 .fp8e4m3) (harg4 : arg4.IsWhole) (arg5 : Memref sig .tc .vmem S24x128 .f32) (harg5 : arg5.IsWhole) (arg6 : Memref sig .tc .vmem S1x192x2048 .fp8e4m3) (harg6 : arg6.IsWhole) (arg7 : Memref sig .tc .vmem S24x128 .f32) (harg7 : arg7.IsWhole) (arg8 : Memref sig .tc .vmem S16x200x128 .bf16) (harg8 : arg8.IsWhole) (arg9 : Memref sig .tc .vmem S1x192x2048 .fp8e4m3) (harg9 : arg9.IsWhole) (arg10 : Memref sig .tc .vmem S24x128 .f32) (harg10 : arg10.IsWhole) (arg11 : Memref sig .tc .vmem S1x192x2048 .fp8e4m3) (harg11 : arg11.IsWhole) (arg12 : Memref sig .tc .vmem S24x128 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S1536x128 .f32) (harg15 : arg15.IsWhole) (arg16 : Memref sig .tc .vmem S1536x128 .f32) (harg16 : arg16.IsWhole) (k0_t1 : Fin k0_t1_loop.trips)

set_option maxHeartbeats 4000000 in
theorem part221 (mx inv : FVec F S32x128 .f32) : k0_part221 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 (laneMask i k0_t1 2) (tileRow i k0_t1 2) (tileCode k0_t1 2) mx inv = (do
  steps (codeChunk arg15 arg9 harg9 k0_t1 2 inv) 12 4 (by omega)
  quantise arg12 arg16 arg11 harg11 i k0_t1 2 mx
  steps (gather arg13 arg8 harg8 k0_t1) 94 0 (by omega)) := rfl

end Cert.KernelIdeal.Trip
-- ==== Proof.Body.lean ====
/-
  The kernel's body is a loop of scatters, tiles and gathers.
-/
module

public import proofs.«01_k».proof.Proof.Part218
public import proofs.«01_k».proof.Proof.Part219
public import proofs.«01_k».proof.Proof.Part220
public import proofs.«01_k».proof.Proof.Part221

@[expose] public section

set_option maxRecDepth 10000

noncomputable section

namespace Cert.KernelIdeal.Trip

open Idealize.ShloMosaic Idealize.SL.Sem

variable {F : FTy → Type} [FloatOps F] [Facts]
open Facts₀ Facts

/-- A run of steps is a first run and then the rest. -/
theorem steps_add {N : Nat} (f : Fin N → P F PUnit) (n k s : Nat) (h : s + (n + k) ≤ N) :
    steps f (n + k) s h = (do steps f n s (by omega); steps f k (s + n) (by omega)) := by
  induction n generalizing s with
  | zero => simp only [steps, pure_bind, Nat.zero_add, Nat.add_zero]
  | succ n ih =>
    have e : n + 1 + k = n + k + 1 := by omega
    simp only [e, steps, bind_assoc]
    congr 1; funext _
    rw [ih (s + 1) (by omega)]
    have e' : s + 1 + n = s + (n + 1) := by omega
    simp only [e']

/-- The first of several steps, and the rest. -/
theorem steps_succ {N : Nat} (f : Fin N → P F PUnit) (k s : Nat) (h : s + (k + 1) ≤ N) :
    steps f (k + 1) s h = (do f ⟨s, by omega⟩; steps f k (s + 1) (by omega)) := rfl

/-- Equal programs, followed by the same. -/
theorem bind_left {α β : Type} {p q : P F α} (h : p = q) (k : α → P F β) : (p >>= k) = (q >>= k) := by rw [h]
/-- Loops of equal bodies. -/
theorem loop_congr {w : Nat} {l : Scf.Loop w} {ok : l.OK} {ρ : Type} {a : ρ} {f g : Fin l.trips → ρ → P F ρ} (h : ∀ t x, f t x = g t x) :
    Scf.Loop.for l ok a f = Scf.Loop.for l ok a g := by
  rw [funext fun t => funext fun x => h t x]

set_option maxHeartbeats 4000000 in
/-- A trip, cut where the printed body is cut. -/
theorem trip_cut (arg2 arg3 : Memref sig .tc .vmem S16x200x128 .bf16) (arg4 arg6 : Memref sig .tc .vmem S1x192x2048 .fp8e4m3) (arg5 arg7 : Memref sig .tc .vmem S24x128 .f32)
    (arg8 : Memref sig .tc .vmem S16x200x128 .bf16) (harg8 : arg8.IsWhole)
    (arg9 : Memref sig .tc .vmem S1x192x2048 .fp8e4m3) (harg9 : arg9.IsWhole) (arg10 : Memref sig .tc .vmem S24x128 .f32)
    (arg11 : Memref sig .tc .vmem S1x192x2048 .fp8e4m3) (harg11 : arg11.IsWhole) (arg12 : Memref sig .tc .vmem S24x128 .f32)
    (arg13 arg14 arg15 arg16 : Memref sig .tc .vmem S1536x128 .f32)
    (i : grid0.Coords) (t : Fin k0_t1_loop.trips) :
    trip (F := F) arg2 arg3 arg4 arg6 arg5 arg7 arg8 harg8 arg9 harg9 arg10 arg11 harg11 arg12 arg13 arg14 arg15 arg16 i t = (do
      steps (scatter2 arg2 arg3 arg13 arg14 t) 64 0 (by omega)
      let raw : Vec F S8x2x128 .bf16 ← Prog.lift (.load arg2 (wordRect t ⟨64, by omega⟩).toLoadRect (View.loadsAt_vmem h_S8x2x128))
      place arg13 (evenRow 64) (evenRow_lt 64) (half 0 (by omega) raw)
      place arg13 (oddRow 64) (oddRow_lt 64) (half 1 (by omega) raw)
      scatter arg3 arg14 t 64
      steps (scatter2 arg2 arg3 arg13 arg14 t) 31 65 (by omega)
      let mx ← tileStep arg4 arg6 arg5 arg7 arg13 arg14 arg15 arg16 i t 0
      quantise arg10 arg15 arg9 harg9 i t 0 mx.1
      quantiseScale arg12 i t 0 mx.2
      steps (codeChunk arg16 arg11 harg11 t 0 (inverse (ratio mx.2))) 6 0 (by omega)
      let x : Vec F S32x128 .f32 ← Prog.lift (.load arg16 (rowsRect 0 6).toLoadRect (View.loadsAt_vmem h_S32x128))
      let _ ← Prog.lift (.load arg11 (codeRect t 0 6).toLoadRect (View.loadsAt_vmem h_S1x32x128))
      Prog.lift (.store arg11 (codeRect t 0 6) (codesOf x (inverse (ratio mx.2))) Finset.univ (View.stores_vmem h_S1x32x128 (harg11.storeExact_slice rfl _ (codeRect_packed t 0 6)) (fun _ => rfl)) (.inl rfl))
      steps (codeChunk arg16 arg11 harg11 t 0 (inverse (ratio mx.2))) 9 7 (by omega)
      tile arg4 arg6 arg5 arg7 arg9 harg9 arg10 arg11 harg11 arg12 arg13 arg14 arg15 arg16 i t 1
      let mx ← tileStep arg4 arg6 arg5 arg7 arg13 arg14 arg15 arg16 i t 2
      quantiseScale arg10 i t 2 mx.1
      steps (codeChunk arg15 arg9 harg9 t 2 (inverse (ratio mx.1))) 4 0 (by omega)
      steps (codeChunk arg15 arg9 harg9 t 2 (inverse (ratio mx.1))) 12 4 (by omega)
      quantise arg12 arg16 arg11 harg11 i t 2 mx.2
      steps (gather arg13 arg8 harg8 t) 94 0 (by omega)
      steps (gather arg13 arg8 harg8 t) 2 94 (by omega)) := by
  unfold trip
  rw [steps_add (scatter2 arg2 arg3 arg13 arg14 t) 64 32 0, steps_add (gather arg13 arg8 harg8 t) 94 2 0, steps_succ (scatter2 arg2 arg3 arg13 arg14 t) 31 (0 + 64)]
  have h3 (f : Fin 3 → P F PUnit) : steps f 3 0 (by omega) = (do f 0; f 1; f 2) := by
    show (f 0 >>= fun _ => f 1 >>= fun _ => f 2 >>= fun x => pure x) = _
    simp only [bind_pure]
  rw [h3]
  have q1 (mx) : quantise (F := F) arg12 arg16 arg11 harg11 i t 0 mx = (do
      quantiseScale arg12 i t 0 mx
      steps (codeChunk arg16 arg11 harg11 t 0 (inverse (ratio mx))) 6 0 (by omega)
      codeChunk arg16 arg11 harg11 t 0 (inverse (ratio mx)) 6
      steps (codeChunk arg16 arg11 harg11 t 0 (inverse (ratio mx))) 9 7 (by omega)) := by
    unfold quantise
    rw [steps_add _ 6 10 0, steps_succ _ 9 (0 + 6)]
    rfl
  have q2 (mx) : quantise (F := F) arg10 arg15 arg9 harg9 i t 2 mx = (do
      quantiseScale arg10 i t 2 mx
      steps (codeChunk arg15 arg9 harg9 t 2 (inverse (ratio mx))) 4 0 (by omega)
      steps (codeChunk arg15 arg9 harg9 t 2 (inverse (ratio mx))) 12 4 (by omega)) := by
    unfold quantise
    rw [steps_add _ 4 12 0]
  have t0 : tile (F := F) arg4 arg6 arg5 arg7 arg9 harg9 arg10 arg11 harg11 arg12 arg13 arg14 arg15 arg16 i t 0 = (do
      let mx ← tileStep arg4 arg6 arg5 arg7 arg13 arg14 arg15 arg16 i t 0
      quantise arg10 arg15 arg9 harg9 i t 0 mx.1
      quantise arg12 arg16 arg11 harg11 i t 0 mx.2) := rfl
  have t2 : tile (F := F) arg4 arg6 arg5 arg7 arg9 harg9 arg10 arg11 harg11 arg12 arg13 arg14 arg15 arg16 i t 2 = (do
      let mx ← tileStep arg4 arg6 arg5 arg7 arg13 arg14 arg15 arg16 i t 2
      quantise arg10 arg15 arg9 harg9 i t 2 mx.1
      quantise arg12 arg16 arg11 harg11 i t 2 mx.2) := rfl
  rw [t0, t2]
  simp only [q1, q2, bind_assoc, codeChunk, scatter2, scatter]
  rfl

set_option maxHeartbeats 4000000 in
/-- The printed body is: the scale arrays cleared at the first point, then the trips. -/
theorem body_eq (i : grid0.Coords) (arg2 : Memref sig .tc .vmem S16x200x128 .bf16) (harg2 : arg2.IsWhole) (arg3 : Memref sig .tc .vmem S16x200x128 .bf16) (harg3 : arg3.IsWhole) (arg4 : Memref sig .tc .vmem S1x192x2048 .fp8e4m3) (harg4 : arg4.IsWhole) (arg5 : Memref sig .tc .vmem S24x128 .f32) (harg5 : arg5.IsWhole) (arg6 : Memref sig .tc .vmem S1x192x2048 .fp8e4m3) (harg6 : arg6.IsWhole) (arg7 : Memref sig .tc .vmem S24x128 .f32) (harg7 : arg7.IsWhole) (arg8 : Memref sig .tc .vmem S16x200x128 .bf16) (harg8 : arg8.IsWhole) (arg9 : Memref sig .tc .vmem S1x192x2048 .fp8e4m3) (harg9 : arg9.IsWhole) (arg10 : Memref sig .tc .vmem S24x128 .f32) (harg10 : arg10.IsWhole) (arg11 : Memref sig .tc .vmem S1x192x2048 .fp8e4m3) (harg11 : arg11.IsWhole) (arg12 : Memref sig .tc .vmem S24x128 .f32) (harg12 : arg12.IsWhole) (arg13 : Memref sig .tc .vmem S1536x128 .f32) (harg13 : arg13.IsWhole) (arg14 : Memref sig .tc .vmem S1536x128 .f32) (harg14 : arg14.IsWhole) (arg15 : Memref sig .tc .vmem S1536x128 .f32) (harg15 : arg15.IsWhole) (arg16 : Memref sig .tc .vmem S1536x128 .f32) (harg16 : arg16.IsWhole) :
    cc0_adamw_fp8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (do
      if _h : atFirst i = 1#1 then do
        clear arg10 arg12
      else do
        pure ⟨⟩
      Scf.Loop.for k0_t1_loop k0_t1_ok ⟨⟩ fun t _ => trip arg2 arg3 arg4 arg6 arg5 arg7 arg8 harg8 arg9 harg9 arg10 arg11 harg11 arg12 arg13 arg14 arg15 arg16 i t
      pure ⟨⟩) := by
  unfold cc0_adamw_fp8
  simp only [part218, bind_assoc, pure_bind]
  have loop : ∀ t : Fin k0_t1_loop.trips, trip (F := F) arg2 arg3 arg4 arg6 arg5 arg7 arg8 harg8 arg9 harg9 arg10 arg11 harg11 arg12 arg13 arg14 arg15 arg16 i t = _ :=
    fun t => trip_cut arg2 arg3 arg4 arg6 arg5 arg7 arg8 harg8 arg9 harg9 arg10 arg11 harg11 arg12 arg13 arg14 arg15 arg16 i t
  by_cases h : atFirst i = 1#1
  rw [dif_pos h]
  refine (dif_pos h).trans ?_
  unfold clear
  simp only [bind_assoc]
  refine bind_congr fun _ => bind_congr fun _ => bind_congr fun _ => bind_congr fun _ => ?_
  rotate_left
  rw [dif_neg h]
  refine (dif_neg h).trans ?_
  all_goals
    refine bind_left (loop_congr fun t _ => ?_) _
    rw [loop]
    refine bind_congr fun _ => bind_congr fun raw => ?_
    rw [part219]
    simp only [bind_assoc, pure_bind]
    refine bind_congr fun _ => bind_congr fun _ => bind_congr fun _ => bind_congr fun _ => bind_congr fun mx => bind_congr fun _ => bind_congr fun _ => bind_congr fun _ => bind_congr fun x => ?_
    rw [part220]
    simp only [bind_assoc, pure_bind]
    refine bind_congr fun _ => bind_congr fun _ => bind_congr fun _ => bind_congr fun _ => bind_congr fun mx => bind_congr fun _ => bind_congr fun _ => ?_
    rw [part221]
    simp only [bind_assoc]
    refine bind_congr fun _ => bind_congr fun _ => bind_congr fun _ => ?_
    rfl

end Cert.KernelIdeal.Trip
-- ==== Proof.Point.lean ====
/-
  A whole grid point as a statement on the contents of its buffers: a tile, a trip, the loop, the body.
-/
module

public import proofs.«01_k».proof.Proof.Tiles
public import proofs.«01_k».proof.Proof.Body

@[expose] public section

set_option maxRecDepth 16384

noncomputable section

namespace Cert.KernelIdeal.Values

open Idealize.ShloMosaic Idealize.ShloMosaic.TcCoe Cert.Hoare
open Idealize.SL Idealize.SL.RA Idealize.SL.BI
open scoped Idealize.SL.BI
open Idealize.SL.BI.BIBase Idealize.SL.BI.Laws Idealize.SL.ProofMode Idealize.SL.Sem

variable [Facts]
open Facts₀ Facts Trip

variable {defs₀ : Defs nD τ sig (Elt Ideal) Λ₀} {c : Dev nD} {Held : Bufs → sProp (MT nD τ sig Unit (Elt Ideal) ℕ (UR sig nD τ) ℕ)}
  {arg2 arg3 arg8 : Memref sig .tc .vmem S16x200x128 .bf16} {arg4 arg6 arg9 arg11 : Memref sig .tc .vmem S1x192x2048 .fp8e4m3}
  {arg5 arg7 arg10 arg12 : Memref sig .tc .vmem S24x128 .f32} {arg13 arg14 arg15 arg16 : Memref sig .tc .vmem S1536x128 .f32}

/-- A chunk's rows put down. -/
theorem run_putRows {dst : Memref sig .tc .vmem S1536x128 .f32} {gd : Bufs → Vec Ideal S1536x128 .f32} {sd : Vec Ideal S1536x128 .f32 → Bufs → Bufs}
    (L : At c Held dst gd sd) (kk : Fin 3) (ch : Fin 16) (v : FVec Ideal S32x128 .f32) (σ : Bufs) :
    Runs defs₀ c Held (putRows dst kk ch v) σ fun _ σ' => σ' = sd ((rowsRect kk ch).overlay (gd σ) v) σ := by
  refine run_bind (L.load (Φ := fun _ σ' => σ' = σ) rfl) fun _ σ' e => ?_
  subst e
  refine L.store ?_
  have : (shapeCast S32x128 v shapeCasts_S32x128_S32x128 : FVec Ideal S32x128 .f32) = v := by
    funext j; idx_vars j; pointwise
  rw [this]

variable (A2 : At c Held arg2 Bufs.w fun X σ => { σ with w := X }) (A3 : At c Held arg3 Bufs.g fun X σ => { σ with g := X })
  (A4 : At c Held arg4 Bufs.mc fun X σ => { σ with mc := X }) (A5 : At c Held arg5 Bufs.ms fun X σ => { σ with ms := X })
  (A6 : At c Held arg6 Bufs.vc fun X σ => { σ with vc := X }) (A7 : At c Held arg7 Bufs.vs fun X σ => { σ with vs := X })
  (A8 : At c Held arg8 Bufs.wo fun X σ => { σ with wo := X }) (A9 : At c Held arg9 Bufs.mo fun X σ => { σ with mo := X })
  (A10 : At c Held arg10 Bufs.mso fun X σ => { σ with mso := X }) (A11 : At c Held arg11 Bufs.vo fun X σ => { σ with vo := X })
  (A12 : At c Held arg12 Bufs.vso fun X σ => { σ with vso := X }) (A13 : At c Held arg13 Bufs.fw fun X σ => { σ with fw := X })
  (A14 : At c Held arg14 Bufs.fg fun X σ => { σ with fg := X }) (A15 : At c Held arg15 Bufs.fm fun X σ => { σ with fm := X })
  (A16 : At c Held arg16 Bufs.fv fun X σ => { σ with fv := X })

section Chunk
include A4 A6 A13 A14 A15 A16

/-- One chunk of a tile: the chunk's rows of the three working arrays are the stepped values, the rest is as it was, and the running
    maxima take the chunk in. -/
theorem run_chunk (b s : Nat) (t : Fin k0_t1_loop.trips) (kk : Fin 3) (scm scv : FVec Ideal S32x1 .f32) (ch : Fin 16) (mx : FVec Ideal S32x128 .f32 × FVec Ideal S32x128 .f32) (σ : Bufs)
    (hg : ∀ (r : Fin 1536) (l : Fin 128), σ.fg (ix2 r l) = spread σ.g t r l)
    (hw : ∀ (r : Fin 1536) (l : Fin 128), r.val % 96 / 32 = kk.val → r.val / 96 = ch.val → σ.fw (ix2 r l) = spread σ.w t r l)
    (hm : ∀ q : Fin 32, scm (ix2 q 0) = scaleAt σ.ms b s (96 * t.val + 32 * kk.val + q.val)) (hv : ∀ q : Fin 32, scv (ix2 q 0) = scaleAt σ.vs b s (96 * t.val + 32 * kk.val + q.val)) :
    Runs defs₀ c Held (chunk arg4 arg6 arg13 arg14 arg15 arg16 t kk scm scv ch mx) σ fun mx' σ' => ∃ X M V, σ' = { σ with fw := X, fm := M, fv := V } ∧
      (∀ (r : Fin 1536) (l : Fin 128), X (ix2 r l) = if r.val % 96 / 32 = kk.val ∧ r.val / 96 = ch.val then wNew σ b s (96 * t.val + r.val % 96) (r.val / 96 * 128 + l.val) else σ.fw (ix2 r l)) ∧
      (∀ (r : Fin 1536) (l : Fin 128), M (ix2 r l) = if r.val % 96 / 32 = kk.val ∧ r.val / 96 = ch.val then mNew σ b s (96 * t.val + r.val % 96) (r.val / 96 * 128 + l.val) else σ.fm (ix2 r l)) ∧
      (∀ (r : Fin 1536) (l : Fin 128), V (ix2 r l) = if r.val % 96 / 32 = kk.val ∧ r.val / 96 = ch.val then vNew σ b s (96 * t.val + r.val % 96) (r.val / 96 * 128 + l.val) else σ.fv (ix2 r l)) ∧
      (∀ (q : Fin 32) (l : Fin 128), (mx'.1 (ix2 q l) : EReal) = max (mx.1 (ix2 q l) : EReal) (max (mNew σ b s (96 * t.val + 32 * kk.val + q.val) (ch.val * 128 + l.val)) (-mNew σ b s (96 * t.val + 32 * kk.val + q.val) (ch.val * 128 + l.val)))) ∧
      (∀ (q : Fin 32) (l : Fin 128), (mx'.2 (ix2 q l) : EReal) = max (mx.2 (ix2 q l) : EReal) (max (vNew σ b s (96 * t.val + 32 * kk.val + q.val) (ch.val * 128 + l.val)) (-vNew σ b s (96 * t.val + 32 * kk.val + q.val) (ch.val * 128 + l.val)))) := by
  refine run_bind (A4.load (Φ := fun a σ' => (a : Vec Ideal S1x32x128 .fp8e4m3) = (fun j => σ.mc ((codeRect t kk ch).toLoadRect.idx j)) ∧ σ' = σ) ⟨rfl, rfl⟩) fun cm σ' e => ?_
  obtain ⟨ecm, rfl⟩ := e
  refine run_bind (A6.load (Φ := fun a σ2 => (a : Vec Ideal S1x32x128 .fp8e4m3) = (fun j => σ'.vc ((codeRect t kk ch).toLoadRect.idx j)) ∧ σ2 = σ') ⟨rfl, rfl⟩) fun cv σ2 e => ?_
  obtain ⟨ecv, rfl⟩ := e
  refine run_bind (A14.load (Φ := fun a σ3 => (a : Vec Ideal S32x128 .f32) = (fun j => σ2.fg ((rowsRect kk ch).toLoadRect.idx j)) ∧ σ3 = σ2) ⟨rfl, rfl⟩) fun g σ3 e => ?_
  obtain ⟨eg, rfl⟩ := e
  refine run_bind (A13.load (Φ := fun a σ4 => (a : Vec Ideal S32x128 .f32) = (fun j => σ3.fw ((rowsRect kk ch).toLoadRect.idx j)) ∧ σ4 = σ3) ⟨rfl, rfl⟩) fun w σ4 e => ?_
  obtain ⟨ew, rfl⟩ := e
  refine run_bind (run_putRows A13 kk ch _ _) fun _ σ5 e5 => ?_
  refine run_bind (run_putRows A15 kk ch _ _) fun _ σ6 e6 => ?_
  refine run_bind (run_putRows A16 kk ch _ _) fun _ σ7 e7 => run_ret ?_
  subst e5 e6 e7
  have hb : ∀ q : Fin 32, ch.val * 96 + kk.val * 32 + q.val < 1536 := fun q => by omega
  have ht := trip_lt t
  -- the loaded values, at an index
  have vg : ∀ (q : Fin 32) (l : Fin 128), (g (ix2 q l) : EReal) = elem σ4.g (96 * t.val + 32 * kk.val + q.val) (ch.val * 128 + l.val) := by
    intro q l
    rw [eg]
    refine (rows_at kk ch σ4.fg q l (hb q)).trans ((hg _ _).trans ?_)
    unfold spread
    congr 1
    · show 96 * t.val + (ch.val * 96 + kk.val * 32 + q.val) % 96 = _; omega
    · show (ch.val * 96 + kk.val * 32 + q.val) / 96 * 128 + l.val = _; omega
  have vw : ∀ (q : Fin 32) (l : Fin 128), (w (ix2 q l) : EReal) = elem σ4.w (96 * t.val + 32 * kk.val + q.val) (ch.val * 128 + l.val) := by
    intro q l
    rw [ew]
    refine (rows_at kk ch σ4.fw q l (hb q)).trans ((hw _ _ ?_ ?_).trans ?_)
    · show (ch.val * 96 + kk.val * 32 + q.val) % 96 / 32 = kk.val; omega
    · show (ch.val * 96 + kk.val * 32 + q.val) / 96 = ch.val; omega
    · unfold spread
      congr 1
      · show 96 * t.val + (ch.val * 96 + kk.val * 32 + q.val) % 96 = _; omega
      · show (ch.val * 96 + kk.val * 32 + q.val) / 96 * 128 + l.val = _; omega
  have vm : ∀ (q : Fin 32) (l : Fin 128), (newM scm cm g (ix2 q l) : EReal) = mNew σ4 b s (96 * t.val + 32 * kk.val + q.val) (ch.val * 128 + l.val) := by
    intro q l
    have := codes_at t kk ch σ4.mc q l
    rw [newM_at, hm, vg, ecm]
    unfold mNew
    exact congrArg (fun y => updM _ y _) this
  have vv : ∀ (q : Fin 32) (l : Fin 128), (newV scv cv g (ix2 q l) : EReal) = vNew σ4 b s (96 * t.val + 32 * kk.val + q.val) (ch.val * 128 + l.val) := by
    intro q l
    have := codes_at t kk ch σ4.vc q l
    rw [newV_at, hv, vg, ecv]
    unfold vNew
    exact congrArg (fun y => updV _ y _) this
  have hq : ∀ r : Fin 1536, r.val % 96 / 32 = kk.val → 96 * t.val + 32 * kk.val + r.val % 32 = 96 * t.val + r.val % 96 := fun r h => by omega
  refine ⟨_, _, _, rfl, fun r l => ?_, fun r l => ?_, fun r l => ?_, fun q l => ?_, fun q l => ?_⟩
  · refine (rows_overlay kk ch _ _ r l).trans ?_
    split_ifs with h
    · rw [newW_at, vm, vv, vw]; unfold wNew; simp only [hq r h.1, h.2]
    · rfl
  · refine (rows_overlay kk ch _ _ r l).trans ?_
    split_ifs with h
    · rw [vm]; simp only [hq r h.1, h.2]
    · rfl
  · refine (rows_overlay kk ch _ _ r l).trans ?_
    split_ifs with h
    · rw [vv]; simp only [hq r h.1, h.2]
    · rfl
  · refine (max_at _ _ q l).trans ?_
    rw [vm]
  · refine (max_at _ _ q l).trans ?_
    rw [vv]
end Chunk

/-- Cell `(a, l)` of a scale array is that of a block of point `(b, s)`, from the point's block `n` and before its block `n'`. -/
abbrev cellIn (b s n n' a l : Nat) : Prop := a % 4 = b ∧ 192 * s + n ≤ a / 4 * 128 + l ∧ a / 4 * 128 + l < 192 * s + n'

/-- The blocks from `n` to `n'` of a point have been stored: from what `σ` held, the outputs are `mo`, `mso`, `vo`, `vso`. -/
structure Stored (σ : Bufs) (b s n n' : Nat) (mo : Vec Ideal S1x192x2048 .fp8e4m3) (mso : Vec Ideal S24x128 .f32) (vo : Vec Ideal S1x192x2048 .fp8e4m3) (vso : Vec Ideal S24x128 .f32) : Prop where
  mo : ∀ (z : Fin 1) (R : Fin 192) (e : Fin 2048), mo (ix3 z R e) = if n ≤ R.val ∧ R.val < n' then codeOf (mNew σ b s R e) (inverseOf (ratioOf (mNew σ b s R))) else σ.mo (ix3 z R e)
  vo : ∀ (z : Fin 1) (R : Fin 192) (e : Fin 2048), vo (ix3 z R e) = if n ≤ R.val ∧ R.val < n' then codeOf (vNew σ b s R e) (inverseOf (ratioOf (vNew σ b s R))) else σ.vo (ix3 z R e)
  mso : ∀ (a : Fin 24) (l : Fin 128), mso (ix2 a l) = if cellIn b s n n' a l then (σ.mso (ix2 a l) : EReal) + scaleOf (ratioOf (mNew σ b s (a.val / 4 * 128 + l.val - 192 * s))) else σ.mso (ix2 a l)
  vso : ∀ (a : Fin 24) (l : Fin 128), vso (ix2 a l) = if cellIn b s n n' a l then (σ.vso (ix2 a l) : EReal) + scaleOf (ratioOf (vNew σ b s (a.val / 4 * 128 + l.val - 192 * s))) else σ.vso (ix2 a l)

/-- Nothing stored yet. -/
theorem Stored.none (σ : Bufs) (b s n : Nat) : Stored σ b s n n σ.mo σ.mso σ.vo σ.vso where
  mo z R e := by rw [if_neg (by omega)]
  vo z R e := by rw [if_neg (by omega)]
  mso a l := by rw [if_neg (by unfold cellIn; omega)]
  vso a l := by rw [if_neg (by unfold cellIn; omega)]

/-- Blocks stored one run after another. -/
theorem Stored.append {σ σ' : Bufs} {b s n n' n'' : Nat} {mo mso vo vso} (h : Stored σ b s n n' σ'.mo σ'.mso σ'.vo σ'.vso) (h' : Stored σ' b s n' n'' mo mso vo vso)
    (h1 : n ≤ n') (h2 : n' ≤ n'') (hm : ∀ R e, mNew σ' b s R e = mNew σ b s R e) (hv : ∀ R e, vNew σ' b s R e = vNew σ b s R e) : Stored σ b s n n'' mo mso vo vso := by
  have hm' : ∀ R, mNew σ' b s R = mNew σ b s R := fun R => funext (hm R)
  have hv' : ∀ R, vNew σ' b s R = vNew σ b s R := fun R => funext (hv R)
  refine ⟨fun z R e => ?_, fun z R e => ?_, fun a l => ?_, fun a l => ?_⟩
  · rw [h'.mo, h.mo, hm']
    by_cases h3 : n ≤ R.val ∧ R.val < n'
    · rw [if_neg (by omega), if_pos h3, if_pos (by omega)]
    · by_cases h4 : n' ≤ R.val ∧ R.val < n''
      · rw [if_pos h4, if_pos (by omega)]
      · rw [if_neg h4, if_neg h3, if_neg (by omega)]
  · rw [h'.vo, h.vo, hv']
    by_cases h3 : n ≤ R.val ∧ R.val < n'
    · rw [if_neg (by omega), if_pos h3, if_pos (by omega)]
    · by_cases h4 : n' ≤ R.val ∧ R.val < n''
      · rw [if_pos h4, if_pos (by omega)]
      · rw [if_neg h4, if_neg h3, if_neg (by omega)]
  · rw [h'.mso, h.mso, hm']
    by_cases h3 : cellIn b s n n' a l
    · rw [if_neg (by omega), if_pos h3, if_pos (by omega)]
    · by_cases h4 : cellIn b s n' n'' a l
      · rw [if_pos h4, if_neg h3, if_pos (by omega)]
      · rw [if_neg h4, if_neg h3, if_neg (by omega)]
  · rw [h'.vso, h.vso, hv']
    by_cases h3 : cellIn b s n n' a l
    · rw [if_neg (by omega), if_pos h3, if_pos (by omega)]
    · by_cases h4 : cellIn b s n' n'' a l
      · rw [if_pos h4, if_neg h3, if_pos (by omega)]
      · rw [if_neg h4, if_neg h3, if_neg (by omega)]

section Tile
include A4 A5 A6 A7 A9 A10 A11 A12 A13 A14 A15 A16

/-- One tile: its rows of the weights' working array are the stepped weights, its blocks are stored. -/
theorem run_tile (harg9 : arg9.IsWhole) (harg11 : arg11.IsWhole) (i : grid0.Coords) (t : Fin k0_t1_loop.trips) (kk : Fin 3) (σ : Bufs)
    (hg : ∀ (r : Fin 1536) (l : Fin 128), σ.fg (ix2 r l) = spread σ.g t r l)
    (hw : ∀ (r : Fin 1536) (l : Fin 128), r.val % 96 / 32 = kk.val → σ.fw (ix2 r l) = spread σ.w t r l) :
    Runs defs₀ c Held (tile arg4 arg6 arg5 arg7 arg9 harg9 arg10 arg11 harg11 arg12 arg13 arg14 arg15 arg16 i t kk) σ fun _ σ' =>
      ∃ X M V mo mso vo vso, σ' = { σ with fw := X, fm := M, fv := V, mo := mo, mso := mso, vo := vo, vso := vso } ∧
      (∀ (r : Fin 1536) (l : Fin 128), X (ix2 r l) = if r.val % 96 / 32 = kk.val then wNew σ (i 0).val (i 1).val (96 * t.val + r.val % 96) (r.val / 96 * 128 + l.val) else σ.fw (ix2 r l)) ∧
      Stored σ (i 0).val (i 1).val (96 * t.val + 32 * kk.val) (96 * t.val + 32 * kk.val + 32) mo mso vo vso := by
  refine run_bind (Ψ := fun (mx : FVec Ideal S32x128 .f32 × FVec Ideal S32x128 .f32) σ' => ∃ X M V, σ' = { σ with fw := X, fm := M, fv := V } ∧
      (∀ (r : Fin 1536) (l : Fin 128), X (ix2 r l) = if r.val % 96 / 32 = kk.val ∧ r.val / 96 < 16 then wNew σ (i 0).val (i 1).val (96 * t.val + r.val % 96) (r.val / 96 * 128 + l.val) else σ.fw (ix2 r l)) ∧
      (∀ (r : Fin 1536) (l : Fin 128), r.val % 96 / 32 = kk.val → r.val / 96 < 16 → M (ix2 r l) = mNew σ (i 0).val (i 1).val (96 * t.val + r.val % 96) (r.val / 96 * 128 + l.val)) ∧
      (∀ (r : Fin 1536) (l : Fin 128), r.val % 96 / 32 = kk.val → r.val / 96 < 16 → V (ix2 r l) = vNew σ (i 0).val (i 1).val (96 * t.val + r.val % 96) (r.val / 96 * 128 + l.val)) ∧
      (∀ (q : Fin 32) (l : Fin 128), (mx.1 (ix2 q l) : EReal) = runMax (fun ch => mNew σ (i 0).val (i 1).val (96 * t.val + 32 * kk.val + q.val) (ch * 128 + l.val)) 16) ∧
      (∀ (q : Fin 32) (l : Fin 128), (mx.2 (ix2 q l) : EReal) = runMax (fun ch => vNew σ (i 0).val (i 1).val (96 * t.val + 32 * kk.val + q.val) (ch * 128 + l.val)) 16)) ?_ ?_
  · refine run_bind (A5.load (Φ := fun a σ' => (a : Vec Ideal S1x128 .f32) = (fun j => σ.ms ((scaleRect i t kk).toLoadRect.idx j)) ∧ σ' = σ) ⟨rfl, rfl⟩) fun rm σ' e => ?_
    obtain ⟨erm, rfl⟩ := e
    refine run_bind (A7.load (Φ := fun a σ2 => (a : Vec Ideal S1x128 .f32) = (fun j => σ'.vs ((scaleRect i t kk).toLoadRect.idx j)) ∧ σ2 = σ') ⟨rfl, rfl⟩) fun rv σ2 e => ?_
    obtain ⟨erv, rfl⟩ := e
    have hm : ∀ q : Fin 32, scaleCol (F := Ideal) (laneMask i t kk) rm (ix2 q 0) = scaleAt σ2.ms (i 0).val (i 1).val (96 * t.val + 32 * kk.val + q.val) := by
      intro q; rw [erm]; exact scaleCol_eq i t kk σ2.ms q
    have hv : ∀ q : Fin 32, scaleCol (F := Ideal) (laneMask i t kk) rv (ix2 q 0) = scaleAt σ2.vs (i 0).val (i 1).val (96 * t.val + 32 * kk.val + q.val) := by
      intro q; rw [erv]; exact scaleCol_eq i t kk σ2.vs q
    refine run_stepsWith _ (fun n (mx : FVec Ideal S32x128 .f32 × FVec Ideal S32x128 .f32) σ' => ∃ X M V, σ' = { σ2 with fw := X, fm := M, fv := V } ∧
      (∀ (r : Fin 1536) (l : Fin 128), X (ix2 r l) = if r.val % 96 / 32 = kk.val ∧ r.val / 96 < n then wNew σ2 (i 0).val (i 1).val (96 * t.val + r.val % 96) (r.val / 96 * 128 + l.val) else σ2.fw (ix2 r l)) ∧
      (∀ (r : Fin 1536) (l : Fin 128), r.val % 96 / 32 = kk.val → r.val / 96 < n → M (ix2 r l) = mNew σ2 (i 0).val (i 1).val (96 * t.val + r.val % 96) (r.val / 96 * 128 + l.val)) ∧
      (∀ (r : Fin 1536) (l : Fin 128), r.val % 96 / 32 = kk.val → r.val / 96 < n → V (ix2 r l) = vNew σ2 (i 0).val (i 1).val (96 * t.val + r.val % 96) (r.val / 96 * 128 + l.val)) ∧
      (∀ (q : Fin 32) (l : Fin 128), (mx.1 (ix2 q l) : EReal) = runMax (fun ch => mNew σ2 (i 0).val (i 1).val (96 * t.val + 32 * kk.val + q.val) (ch * 128 + l.val)) n) ∧
      (∀ (q : Fin 32) (l : Fin 128), (mx.2 (ix2 q l) : EReal) = runMax (fun ch => vNew σ2 (i 0).val (i 1).val (96 * t.val + 32 * kk.val + q.val) (ch * 128 + l.val)) n)) ?_ 16 0 _ _ _ ?_
    · rintro ch mx _ ⟨X, M, V, rfl, hX, hM, hV, h1, h2⟩
      refine run_mono (run_chunk A4 A6 A13 A14 A15 A16 (i 0).val (i 1).val t kk _ _ ch mx _ hg ?_ hm hv) ?_
      · intro r l hr hc
        refine (hX r l).trans ?_
        rw [if_neg (by omega)]
        exact hw r l hr
      · rintro mx' _ ⟨X', M', V', rfl, hX', hM', hV', h1', h2'⟩
        refine ⟨X', M', V', rfl, fun r l => ?_, fun r l hr hc => ?_, fun r l hr hc => ?_, fun q l => ?_, fun q l => ?_⟩
        · refine (hX' r l).trans ?_
          by_cases h : r.val % 96 / 32 = kk.val ∧ r.val / 96 = ch.val
          · rw [if_pos h, if_pos (by omega)]; rfl
          · rw [if_neg h]
            refine (hX r l).trans ?_
            by_cases h' : r.val % 96 / 32 = kk.val ∧ r.val / 96 < ch.val
            · rw [if_pos h', if_pos (by omega)]
            · rw [if_neg h', if_neg (by omega)]
        · refine (hM' r l).trans ?_
          by_cases h : r.val / 96 = ch.val
          · rw [if_pos ⟨hr, h⟩]; rfl
          · rw [if_neg (fun h' => h h'.2)]; exact hM r l hr (by omega)
        · refine (hV' r l).trans ?_
          by_cases h : r.val / 96 = ch.val
          · rw [if_pos ⟨hr, h⟩]; rfl
          · rw [if_neg (fun h' => h h'.2)]; exact hV r l hr (by omega)
        · rw [h1', h1]; rfl
        · rw [h2', h2]; rfl
    · refine ⟨σ2.fw, σ2.fm, σ2.fv, rfl, fun r l => by rw [if_neg (by omega)], fun r l _ h => absurd h (by omega), fun r l _ h => absurd h (by omega), fun q l => ?_, fun q l => ?_⟩
      · show splat (F := Ideal) 0x00000000#32 (ix2 q l) = (0 : EReal)
        unfold splat; pointwise
      · show splat (F := Ideal) 0x00000000#32 (ix2 q l) = (0 : EReal)
        unfold splat; pointwise
  · rintro mx _ ⟨X, M, V, rfl, hX, hM, hV, h1, h2⟩
    refine run_bind (run_quantise A10 A15 A9 harg9 (fun _ _ => rfl) (fun _ _ => rfl) (fun _ _ => rfl) (fun _ _ => rfl) (fun _ _ _ => rfl) i t kk mx.1
      (mNew σ (i 0).val (i 1).val) _ (fun r l h => hM r l h (by omega)) h1) ?_
    rintro _ _ ⟨mso, mo, rfl, hmso, hmo⟩
    refine run_mono (run_quantise A12 A16 A11 harg11 (fun _ _ => rfl) (fun _ _ => rfl) (fun _ _ => rfl) (fun _ _ => rfl) (fun _ _ _ => rfl) i t kk mx.2
      (vNew σ (i 0).val (i 1).val) _ (fun r l h => hV r l h (by omega)) h2) ?_
    rintro _ _ ⟨vso, vo, rfl, hvso, hvo⟩
    have h9 : ∀ R : Fin 192, R.val / 32 = 3 * t.val + kk.val ↔ 96 * t.val + 32 * kk.val ≤ R.val ∧ R.val < 96 * t.val + 32 * kk.val + 32 := fun R => by omega
    refine ⟨X, M, V, mo, mso, vo, vso, rfl, fun r l => ?_, ⟨fun z R e => ?_, fun z R e => ?_, fun a l => ?_, fun a l => ?_⟩⟩
    · rw [hX]
      by_cases h : r.val % 96 / 32 = kk.val
      · rw [if_pos ⟨h, by omega⟩, if_pos h]
      · rw [if_neg (fun h' => h h'.1), if_neg h]
    · rw [hmo]; simp only [h9]
    · rw [hvo]; simp only [h9]
    · rw [hmso]; simp only [Nat.add_assoc]
    · rw [hvso]; simp only [Nat.add_assoc]
end Tile

end Cert.KernelIdeal.Values
-- ==== Proof.Whole.lean ====
/-
  A trip of the loop, the loop, and the whole body of a grid point, as statements on the contents of its buffers.
-/
module

public import proofs.«01_k».proof.Proof.Point

@[expose] public section

set_option maxRecDepth 16384

noncomputable section

namespace Cert.KernelIdeal.Values

open Idealize.ShloMosaic Idealize.ShloMosaic.TcCoe Cert.Hoare
open Idealize.SL Idealize.SL.RA Idealize.SL.BI
open scoped Idealize.SL.BI
open Idealize.SL.BI.BIBase Idealize.SL.BI.Laws Idealize.SL.ProofMode Idealize.SL.Sem

variable [Facts]
open Facts₀ Facts Trip

variable {defs₀ : Defs nD τ sig (Elt Ideal) Λ₀} {c : Dev nD} {Held : Bufs → sProp (MT nD τ sig Unit (Elt Ideal) ℕ (UR sig nD τ) ℕ)}
  {arg2 arg3 arg8 : Memref sig .tc .vmem S16x200x128 .bf16} {arg4 arg6 arg9 arg11 : Memref sig .tc .vmem S1x192x2048 .fp8e4m3}
  {arg5 arg7 arg10 arg12 : Memref sig .tc .vmem S24x128 .f32} {arg13 arg14 arg15 arg16 : Memref sig .tc .vmem S1536x128 .f32}

variable (A2 : At c Held arg2 Bufs.w fun X σ => { σ with w := X }) (A3 : At c Held arg3 Bufs.g fun X σ => { σ with g := X })
  (A4 : At c Held arg4 Bufs.mc fun X σ => { σ with mc := X }) (A5 : At c Held arg5 Bufs.ms fun X σ => { σ with ms := X })
  (A6 : At c Held arg6 Bufs.vc fun X σ => { σ with vc := X }) (A7 : At c Held arg7 Bufs.vs fun X σ => { σ with vs := X })
  (A8 : At c Held arg8 Bufs.wo fun X σ => { σ with wo := X }) (A9 : At c Held arg9 Bufs.mo fun X σ => { σ with mo := X })
  (A10 : At c Held arg10 Bufs.mso fun X σ => { σ with mso := X }) (A11 : At c Held arg11 Bufs.vo fun X σ => { σ with vo := X })
  (A12 : At c Held arg12 Bufs.vso fun X σ => { σ with vso := X }) (A13 : At c Held arg13 Bufs.fw fun X σ => { σ with fw := X })
  (A14 : At c Held arg14 Bufs.fg fun X σ => { σ with fg := X }) (A15 : At c Held arg15 Bufs.fm fun X σ => { σ with fm := X })
  (A16 : At c Held arg16 Bufs.fv fun X σ => { σ with fv := X })

/-- What a window of new weights holds at group `k`, row `u`, lane `l`: the stepped weight that lies there. -/
def wOut (σ : Bufs) (b s k u l : Nat) : EReal := wNew σ b s (12 * k + backR u) (backC u * 128 + l)

/-- The outputs' contents replaced, and the working arrays' whatever they become. -/
def Became (σ σ' : Bufs) : Prop := ∃ wo mo mso vo vso fw fg fm fv, σ' = { σ with wo := wo, mo := mo, mso := mso, vo := vo, vso := vso, fw := fw, fg := fg, fm := fm, fv := fv }

/-- The working buffers need not change. -/
theorem Became.refl (σ : Bufs) : Became σ σ := ⟨_, _, _, _, _, _, _, _, _, rfl⟩
/-- One change after another is a change. -/
theorem Became.trans {σ σ' σ'' : Bufs} (h : Became σ σ') (h' : Became σ' σ'') : Became σ σ'' := by
  obtain ⟨_, _, _, _, _, _, _, _, _, rfl⟩ := h
  obtain ⟨_, _, _, _, _, _, _, _, _, rfl⟩ := h'
  exact ⟨_, _, _, _, _, _, _, _, _, rfl⟩
/-- The working buffers do not matter for the first moment, -/
theorem Became.mNew {σ σ' : Bufs} (h : Became σ σ') : mNew σ' = mNew σ := by obtain ⟨_, _, _, _, _, _, _, _, _, rfl⟩ := h; rfl
/-- nor for the second, -/
theorem Became.vNew {σ σ' : Bufs} (h : Became σ σ') : vNew σ' = vNew σ := by obtain ⟨_, _, _, _, _, _, _, _, _, rfl⟩ := h; rfl
/-- nor for the new weight, -/
theorem Became.wNew {σ σ' : Bufs} (h : Became σ σ') : wNew σ' = wNew σ := by obtain ⟨_, _, _, _, _, _, _, _, _, rfl⟩ := h; rfl
/-- nor for where it goes. -/
theorem Became.wOut {σ σ' : Bufs} (h : Became σ σ') : wOut σ' = wOut σ := by obtain ⟨_, _, _, _, _, _, _, _, _, rfl⟩ := h; rfl

section Trip
include A2 A3 A4 A5 A6 A7 A8 A9 A10 A11 A12 A13 A14 A15 A16

/-- One trip: its 96 blocks are stored, and its eight groups of new weights. -/
theorem run_trip (harg8 : arg8.IsWhole) (harg9 : arg9.IsWhole) (harg11 : arg11.IsWhole) (i : grid0.Coords) (t : Fin k0_t1_loop.trips) (σ : Bufs) :
    Runs defs₀ c Held (trip arg2 arg3 arg4 arg6 arg5 arg7 arg8 harg8 arg9 harg9 arg10 arg11 harg11 arg12 arg13 arg14 arg15 arg16 i t) σ fun _ σ' =>
      Became σ σ' ∧ Stored σ (i 0).val (i 1).val (96 * t.val) (96 * t.val + 96) σ'.mo σ'.mso σ'.vo σ'.vso ∧
      ∀ (k : Fin 16) (u : Fin 200) (l : Fin 128), u.val < 192 → σ'.wo (ix3 k u l) = if k.val / 8 = t.val then wOut σ (i 0).val (i 1).val k u l else σ.wo (ix3 k u l) := by
  -- the words into the working arrays
  refine run_bind (Ψ := fun _ σ' => ∃ X Y, σ' = { σ with fw := X, fg := Y } ∧
      (∀ (r : Fin 1536) (l : Fin 128), X (ix2 r l) = spread σ.w t r l) ∧ (∀ (r : Fin 1536) (l : Fin 128), Y (ix2 r l) = spread σ.g t r l)) ?_ ?_
  · refine run_mono (run_steps _ (fun n σ' => ∃ X Y, σ' = { σ with fw := X, fg := Y } ∧
      (∀ (r : Fin 1536) (l : Fin 128), colOf r (r / 96) / 2 < n → X (ix2 r l) = spread σ.w t r l) ∧
      (∀ (r : Fin 1536) (l : Fin 128), colOf r (r / 96) / 2 < n → Y (ix2 r l) = spread σ.g t r l)) ?_ 96 0 (by omega) σ ⟨_, _, rfl, fun _ _ h => absurd h (by omega), fun _ _ h => absurd h (by omega)⟩) ?_
    · rintro w _ ⟨X, Y, rfl, hX, hY⟩
      refine run_bind (run_scatter A2 A13 (fun _ _ => rfl) (fun _ _ _ => rfl) t w _) ?_
      rintro _ _ ⟨X', rfl, hX'⟩
      refine run_mono (run_scatter A3 A14 (fun _ _ => rfl) (fun _ _ _ => rfl) t w _) ?_
      rintro _ _ ⟨Y', rfl, hY'⟩
      refine ⟨X', Y', rfl, fun r l h => ?_, fun r l h => ?_⟩
      · refine (hX' r l).trans ?_
        split_ifs with h'
        · rfl
        · exact hX r l (by omega)
      · refine (hY' r l).trans ?_
        split_ifs with h'
        · rfl
        · exact hY r l (by omega)
    · rintro _ _ ⟨X, Y, rfl, hX, hY⟩
      exact ⟨X, Y, rfl, fun r l => hX r l (row_from r).1, fun r l => hY r l (row_from r).1⟩
  rintro _ σ1 ⟨X0, Y0, e1, hX0, hY0⟩
  have b1 : Became σ σ1 := by subst e1; exact ⟨_, _, _, _, _, _, _, _, _, rfl⟩
  -- the tiles
  refine run_bind (Ψ := fun _ σ' => Became σ σ' ∧ σ'.wo = σ.wo ∧
      (∀ (r : Fin 1536) (l : Fin 128), σ'.fw (ix2 r l) = wNew σ (i 0).val (i 1).val (96 * t.val + r.val % 96) (r.val / 96 * 128 + l.val)) ∧
      Stored σ (i 0).val (i 1).val (96 * t.val) (96 * t.val + 96) σ'.mo σ'.mso σ'.vo σ'.vso) ?_ ?_
  · refine run_mono (run_steps _ (fun n σ' => Became σ σ' ∧ σ'.wo = σ.wo ∧ σ'.w = σ.w ∧ σ'.g = σ.g ∧ (∀ (r : Fin 1536) (l : Fin 128), σ'.fg (ix2 r l) = spread σ.g t r l) ∧
      (∀ (r : Fin 1536) (l : Fin 128), σ'.fw (ix2 r l) = if r.val % 96 / 32 < n then wNew σ (i 0).val (i 1).val (96 * t.val + r.val % 96) (r.val / 96 * 128 + l.val) else spread σ.w t r l) ∧
      Stored σ (i 0).val (i 1).val (96 * t.val) (96 * t.val + 32 * n) σ'.mo σ'.mso σ'.vo σ'.vso) ?_ 3 0 (by omega) σ1 ?_) ?_
    · rintro kk σ2 ⟨hb, hwo, hw, hg, hfg, hfw, hst⟩
      refine run_mono (run_tile A4 A5 A6 A7 A9 A10 A11 A12 A13 A14 A15 A16 harg9 harg11 i t kk σ2 (fun r l => by rw [hfg, hg]) (fun r l h => by rw [hfw, if_neg (by omega), hw])) ?_
      rintro _ σ3 ⟨X, M, V, mo, mso, vo, vso, rfl, hX, hS⟩
      refine ⟨hb.trans ⟨_, _, _, _, _, _, _, _, _, rfl⟩, hwo, hw, hg, hfg, fun r l => ?_, ?_⟩
      · refine (hX r l).trans ?_
        by_cases h : r.val % 96 / 32 = kk.val
        · rw [if_pos h, if_pos (by omega), hb.wNew]
        · rw [if_neg h, hfw]
          by_cases h' : r.val % 96 / 32 < kk.val
          · rw [if_pos h', if_pos (by omega)]
          · rw [if_neg h', if_neg (by omega)]
      · have := hst.append hS (by omega) (by omega) (fun R e => by rw [hb.mNew]) (fun R e => by rw [hb.vNew])
        rwa [show 96 * t.val + 32 * (kk.val + 1) = 96 * t.val + 32 * kk.val + 32 by omega]
    · refine ⟨b1, by rw [e1], by rw [e1], by rw [e1], fun r l => by rw [e1]; exact hY0 r l, fun r l => by rw [e1, if_neg (by omega)]; exact hX0 r l, ?_⟩
      subst e1; exact Stored.none σ _ _ _
    · rintro _ σ2 ⟨hb, hwo, _, _, _, hfw, hst⟩
      refine ⟨hb, hwo, fun r l => by rw [hfw, if_pos (by omega)], hst⟩
  rintro _ σ2 ⟨b2, hwo, hfw, hst⟩
  -- the weights back into words
  refine run_mono (run_steps _ (fun n σ' => ∃ X, σ' = { σ2 with wo := X } ∧ ∀ (k : Fin 16) (u : Fin 200) (l : Fin 128), X (ix3 k u l) =
      if k.val / 8 = t.val ∧ u.val / 2 < n then at2 σ2.fw (backC u * 96 + 12 * (k % 8) + backR u) l else σ2.wo (ix3 k u l)) ?_ 96 0 (by omega) σ2 ⟨_, rfl, fun k u l => by rw [if_neg (by omega)]⟩) ?_
  · rintro w _ ⟨X, rfl, hX⟩
    refine run_mono (run_gather A13 A8 harg8 t w _) ?_
    rintro _ _ ⟨X', rfl, hX'⟩
    refine ⟨X', rfl, fun k u l => ?_⟩
    refine (hX' k u l).trans ?_
    by_cases h : k.val / 8 = t.val ∧ u.val / 2 = w.val
    · rw [if_pos h, if_pos (by omega)]
    · rw [if_neg h]
      refine (hX k u l).trans ?_
      by_cases h' : k.val / 8 = t.val ∧ u.val / 2 < w.val
      · rw [if_pos h', if_pos (by omega)]
      · rw [if_neg h', if_neg (by omega)]
  · rintro _ _ ⟨X, rfl, hX⟩
    refine ⟨b2.trans ⟨_, _, _, _, _, _, _, _, _, rfl⟩, hst, fun k u l hu => ?_⟩
    refine (hX k u l).trans ?_
    by_cases h : k.val / 8 = t.val
    · have hR : backR u < 12 := by unfold backR; omega
      have hC : backC u < 16 := by unfold backC; omega
      rw [if_pos ⟨h, by omega⟩, if_pos h]
      refine (at2_eq σ2.fw (⟨backC u * 96 + 12 * (k.val % 8) + backR u, by omega⟩ : Fin 1536) l).symm.trans ?_
      rw [hfw]
      unfold wOut
      congr 1
      · show 96 * t.val + (backC u * 96 + 12 * (k.val % 8) + backR u) % 96 = _; omega
      · show (backC u * 96 + 12 * (k.val % 8) + backR u) / 96 * 128 + l.val = _; omega
    · rw [if_neg (fun h' => h h'.1), if_neg h, hwo]

omit A2 A3 A4 A5 A6 A7 A8 A9 A10 A11 A12 A13 A14 A15 A16 in
/-- A branch, each side run. -/
theorem run_dite {p : Prop} [Decidable p] {α : Type} {A : p → P Ideal α} {B : ¬ p → P Ideal α} {σ : Bufs} {Φ : α → Bufs → Prop}
    (hp : ∀ h, Runs defs₀ c Held (A h) σ Φ) (hn : ∀ h, Runs defs₀ c Held (B h) σ Φ) : Runs defs₀ c Held (if h : p then A h else B h) σ Φ := by
  by_cases h : p
  · rw [dif_pos h]; exact hp h
  · rw [dif_neg h]; exact hn h

/-- The scale outputs cleared, at the first point. -/
def cleared (i : grid0.Coords) (σ : Bufs) : Bufs := if atFirst i = 1#1 then { σ with mso := fun _ => (0 : EReal), vso := fun _ => (0 : EReal) } else σ

/-- The body of a point: all its 192 blocks are stored, over scale arrays that the first point clears, and all its groups of new weights. -/
theorem run_body (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (harg10 : arg10.IsWhole) (harg11 : arg11.IsWhole) (harg12 : arg12.IsWhole) (harg13 : arg13.IsWhole) (harg14 : arg14.IsWhole) (harg15 : arg15.IsWhole) (harg16 : arg16.IsWhole)
    (i : grid0.Coords) (σ : Bufs) :
    Runs defs₀ c Held (cc0_adamw_fp8 i arg2 harg2 arg3 harg3 arg4 harg4 arg5 harg5 arg6 harg6 arg7 harg7 arg8 harg8 arg9 harg9 arg10 harg10 arg11 harg11 arg12 harg12 arg13 harg13 arg14 harg14 arg15 harg15 arg16 harg16) σ fun _ σ' =>
      Became σ σ' ∧ Stored (cleared i σ) (i 0).val (i 1).val 0 192 σ'.mo σ'.mso σ'.vo σ'.vso ∧
      ∀ (k : Fin 16) (u : Fin 200) (l : Fin 128), u.val < 192 → σ'.wo (ix3 k u l) = wOut σ (i 0).val (i 1).val k u l := by
  rw [body_eq]
  have bc : Became σ (cleared i σ) := by
    unfold cleared; split_ifs
    · exact ⟨_, _, _, _, _, _, _, _, _, rfl⟩
    · exact Became.refl σ
  have hclear : atFirst i = 1#1 → Runs defs₀ c Held (clear arg10 arg12 : P Ideal PUnit) σ fun _ σ' => σ' = cleared i σ := by
    intro h
    unfold cleared
    · rw [if_pos h]
      have full : ∀ (X : Vec Ideal S24x128 .f32), (Rect.unit (s := S24x128) ![0, 0] S24x128.size inb_S24x128_S24x128_0_0).overlay X (broadcast S24x128 (Scalar.ofBits .f32 0x00000000#32 : Ideal .f32)) = (fun _ => (0 : EReal)) := by
        intro X
        funext y
        refine (overlay_hit (Rect.unit (s := S24x128) ![0, 0] S24x128.size inb_S24x128_S24x128_0_0) X _ y y fun a => ?_).trans ?_
        · fin_cases a
          · show (y 0).val = 0 + 1 * (y 0).val; omega
          · show (y 1).val = 0 + 1 * (y 1).val; omega
        · exact Ideal.ofBits_zero_f32
      refine run_bind (A10.load (Φ := fun _ σ' => σ' = σ) rfl) fun _ σ' e => ?_
      subst e
      refine run_bind (A10.store (Φ := fun _ σ2 => σ2 = { σ' with mso := fun _ => (0 : EReal) }) (by rw [full])) fun _ σ2 e => ?_
      refine run_bind (A12.load (Φ := fun _ σ3 => σ3 = σ2) rfl) fun _ σ3 e3 => ?_
      refine A12.store ?_
      rw [full, e3, e]
  have hloop : Runs defs₀ c Held (do
      Scf.Loop.for k0_t1_loop k0_t1_ok PUnit.unit fun t _ => trip arg2 arg3 arg4 arg6 arg5 arg7 arg8 harg8 arg9 harg9 arg10 arg11 harg11 arg12 arg13 arg14 arg15 arg16 i t
      pure PUnit.unit) (cleared i σ) fun _ σ' =>
      Became σ σ' ∧ Stored (cleared i σ) (i 0).val (i 1).val 0 192 σ'.mo σ'.mso σ'.vo σ'.vso ∧
      ∀ (k : Fin 16) (u : Fin 200) (l : Fin 128), u.val < 192 → σ'.wo (ix3 k u l) = wOut σ (i 0).val (i 1).val k u l := by
   refine run_bind (Ψ := fun _ σ' => Became σ σ' ∧ Stored (cleared i σ) (i 0).val (i 1).val 0 192 σ'.mo σ'.mso σ'.vo σ'.vso ∧
       ∀ (k : Fin 16) (u : Fin 200) (l : Fin 128), u.val < 192 → σ'.wo (ix3 k u l) = wOut σ (i 0).val (i 1).val k u l) ?_ fun _ σ' h => run_ret h
   have htr : k0_t1_loop.trips = 2 := by decide +kernel
   refine run_mono (run_loop k0_t1_loop k0_t1_ok PUnit.unit _ (fun n _ σ' => Became σ σ' ∧ Stored (cleared i σ) (i 0).val (i 1).val 0 (96 * n) σ'.mo σ'.mso σ'.vo σ'.vso ∧
       ∀ (k : Fin 16) (u : Fin 200) (l : Fin 128), u.val < 192 → k.val / 8 < n → σ'.wo (ix3 k u l) = wOut σ (i 0).val (i 1).val k u l) ⟨bc, Stored.none _ _ _ _, fun k u l _ h => absurd h (by omega)⟩ ?_) ?_
   · rintro t _ σ2 ⟨hb, hst, hwo⟩
     refine run_mono (run_trip A2 A3 A4 A5 A6 A7 A8 A9 A10 A11 A12 A13 A14 A15 A16 harg8 harg9 harg11 i t σ2) ?_
     rintro _ σ3 ⟨hb', hst', hwo'⟩
     refine ⟨hb.trans hb', ?_, fun k u l hu hk => ?_⟩
     · have := hst.append hst' (by omega) (by omega) (fun R e => by rw [hb.mNew, bc.mNew]) (fun R e => by rw [hb.vNew, bc.vNew])
       rwa [show 96 * (t.val + 1) = 96 * t.val + 96 by omega]
     · rw [hwo' k u l hu]
       split_ifs with h
       · rw [hb.wOut]
       · exact hwo k u l hu (by omega)
   · rintro _ σ' ⟨hb, hst, hwo⟩
     rw [htr] at hst hwo
     exact ⟨hb, hst, fun k u l hu => hwo k u l hu (by omega)⟩
  refine run_dite (fun h => ?_) (fun h => ?_)
  · exact run_bind (hclear h) fun _ σ1 e1 => by subst e1; exact hloop
  · have : cleared i σ = σ := by unfold cleared; rw [if_neg h]
    rw [this] at hloop ⊢
    exact hloop
end Trip

end Cert.KernelIdeal.Values
-- ==== Proof.Global.lean ====
/-
  What a grid point leaves in its windows, as a function of the whole arrays that the kernel is given: from the statements about
  one point's buffers to statements about the blocks of the four tensors.
-/
module

public import proofs.«01_k».proof.Proof.Whole

@[expose] public section

set_option maxRecDepth 16384

noncomputable section

namespace Cert.KernelIdeal.Values

open Idealize.ShloMosaic Idealize.SL.Sem

/-- The six arrays that the kernel reads: weights and gradients in groups of rows, the codes and the scales of the moments. -/
structure Arrs where
  w : Vec Ideal S256x192x128 .bf16
  g : Vec Ideal S256x192x128 .bf16
  mc : Vec Ideal S4x768x2048 .fp8e4m3
  ms : Vec Ideal S24x128 .f32
  vc : Vec Ideal S4x768x2048 .fp8e4m3
  vs : Vec Ideal S24x128 .f32

/-- Element `e` of block `n` of batch `b`, in groups of rows. -/
def blockElem (X : Vec Ideal S256x192x128 .bf16) (b n e : Nat) : EReal := at3 X (64 * b + n / 12) (colOf n (e / 128)) (e % 128)
/-- The scale of block `n` of batch `b`. -/
def blockScale (S : Vec Ideal S24x128 .f32) (b n : Nat) : EReal := at2 S (n / 128 * 4 + b) (n % 128)
/-- The first moment's element `e` of block `n` of batch `b`, stepped. -/
def stepM (A : Arrs) (b n e : Nat) : EReal := updM (blockScale A.ms b n) (at3 A.mc b n e) (blockElem A.g b n e)
/-- The second moment's. -/
def stepV (A : Arrs) (b n e : Nat) : EReal := updV (blockScale A.vs b n) (at3 A.vc b n e) (blockElem A.g b n e)
/-- The weight's. -/
def stepW (A : Arrs) (b n e : Nat) : EReal := updW (blockElem A.w b n e) (stepM A b n e) (stepV A b n e)
/-- The code of element `e` of block `n` of batch `b` of a moment `f`. -/
def codeAt (f : Nat → Nat → Nat → EReal) (b n e : Nat) : EReal := codeOf (f b n e) (inverseOf (ratioOf (f b n)))
/-- The scale cells once `T` points have run: those of the blocks stored hold their scales, the others 0. -/
def scalesAt (f : Nat → Nat → Nat → EReal) (T a l : Nat) : EReal :=
  if 4 * (a % 4) + (a / 4 * 128 + l) / 192 < T then (0 : EReal) + scaleOf (ratioOf (f (a % 4) (a / 4 * 128 + l))) else 0
/-- What a window of new weights of point `(b, s)` holds at group `k`, row `u`, lane `l`. -/
def weightAt (A : Arrs) (b s k u l : Nat) : EReal := stepW A b (192 * s + (12 * k + backR u)) (backC u * 128 + l)

/-- A point's input buffers hold their windows of the arrays. -/
structure Fits (A : Arrs) (b s : Nat) (σ : Bufs) : Prop where
  w : ∀ k u l, k < 16 → u < 192 → l < 128 → at3 σ.w k u l = at3 A.w (16 * (4 * b + s) + k) u l
  g : ∀ k u l, k < 16 → u < 192 → l < 128 → at3 σ.g k u l = at3 A.g (16 * (4 * b + s) + k) u l
  mc : ∀ R e, R < 192 → e < 2048 → at3 σ.mc 0 R e = at3 A.mc b (192 * s + R) e
  vc : ∀ R e, R < 192 → e < 2048 → at3 σ.vc 0 R e = at3 A.vc b (192 * s + R) e
  ms : σ.ms = A.ms
  vs : σ.vs = A.vs

/-- A row of words is one of 192. -/
theorem colOf_lt (R c : Nat) (hc : c < 16) : colOf R c < 192 := by unfold colOf; omega
/-- It is the same for every group of 192 blocks. -/
theorem colOf_add (s R c : Nat) : colOf (192 * s + R) c = colOf R c := by
  unfold colOf; rw [show (192 * s + R) % 12 = R % 12 by omega]

/-- An element of a point's window is an element of the array. -/
theorem elem_eq {X : Vec Ideal S16x200x128 .bf16} {Y : Vec Ideal S256x192x128 .bf16} {b s : Nat}
    (h : ∀ k u l, k < 16 → u < 192 → l < 128 → at3 X k u l = at3 Y (16 * (4 * b + s) + k) u l) (R e : Nat) (hR : R < 192) (he : e < 2048) :
    elem X R e = blockElem Y b (192 * s + R) e := by
  unfold elem blockElem
  rw [h _ _ _ (by omega) (colOf_lt _ _ (by omega)) (by omega), colOf_add]
  congr 1; omega

variable {A : Arrs} {b s : Nat} {σ : Bufs}

/-- The first moment that a point computes, in the array's coordinates. -/
theorem Fits.mNew (h : Fits A b s σ) (R e : Nat) (hR : R < 192) (he : e < 2048) : mNew σ b s R e = stepM A b (192 * s + R) e := by
  unfold Values.mNew stepM
  rw [elem_eq h.g R e hR he, h.mc R e hR he, h.ms]; rfl

/-- The second moment. -/
theorem Fits.vNew (h : Fits A b s σ) (R e : Nat) (hR : R < 192) (he : e < 2048) : vNew σ b s R e = stepV A b (192 * s + R) e := by
  unfold Values.vNew stepV
  rw [elem_eq h.g R e hR he, h.vc R e hR he, h.vs]; rfl

/-- The new weight. -/
theorem Fits.wNew (h : Fits A b s σ) (R e : Nat) (hR : R < 192) (he : e < 2048) : wNew σ b s R e = stepW A b (192 * s + R) e := by
  unfold Values.wNew stepW
  rw [elem_eq h.w R e hR he, h.mNew R e hR he, h.vNew R e hR he]

/-- The new weight at its place in the window. -/
theorem Fits.wOut (h : Fits A b s σ) (k u l : Nat) (hk : k < 16) (hu : u < 192) (hl : l < 128) : wOut σ b s k u l = weightAt A b s k u l :=
  h.wNew _ _ (by unfold backR; omega) (by unfold backC; omega)

/-- A running maximum of equal values. -/
theorem runMax_congr {f g : Nat → EReal} : ∀ n, (∀ c < n, f c = g c) → runMax f n = runMax g n
  | 0, _ => rfl
  | n + 1, h => by unfold runMax; rw [runMax_congr n fun c hc => h c (by omega), h n (by omega)]

/-- A ratio reads 2048 elements. -/
theorem ratioOf_congr {f g : Nat → EReal} (h : ∀ e < 2048, f e = g e) : ratioOf f = ratioOf g := by
  unfold ratioOf
  congr 2
  funext l
  exact runMax_congr 16 fun c hc => h _ (by omega)

/-- The ratio of a block of the first moment. -/
theorem Fits.ratioM (h : Fits A b s σ) (R : Nat) (hR : R < 192) : ratioOf (Values.mNew σ b s R) = ratioOf (stepM A b (192 * s + R)) :=
  ratioOf_congr fun e he => h.mNew R e hR he
/-- And of the second. -/
theorem Fits.ratioV (h : Fits A b s σ) (R : Nat) (hR : R < 192) : ratioOf (Values.vNew σ b s R) = ratioOf (stepV A b (192 * s + R)) :=
  ratioOf_congr fun e he => h.vNew R e hR he

/-- The scale cells after a point, from those before it. -/
theorem scalesAt_step (f : Nat → Nat → Nat → EReal) (b s a l : Nat) (hs : s < 4) (ha : a < 24) (hl : l < 128) {X : Nat → EReal}
    (hX : ∀ R < 192, X R = scaleOf (ratioOf (f b (192 * s + R)))) :
    (if cellIn b s 0 192 a l then scalesAt f (4 * b + s) a l + X (a / 4 * 128 + l - 192 * s) else scalesAt f (4 * b + s) a l)
      = scalesAt f (4 * b + s + 1) a l := by
  unfold scalesAt
  by_cases h : cellIn b s 0 192 a l
  · obtain ⟨h1, h2, h3⟩ := h
    rw [if_pos ⟨h1, h2, h3⟩, if_neg (by omega), if_pos (by omega), hX _ (by omega), h1, show 192 * s + (a / 4 * 128 + l - 192 * s) = a / 4 * 128 + l by omega]
  · rw [if_neg h]
    have hn : a / 4 * 128 + l < 768 := by omega
    by_cases h' : 4 * (a % 4) + (a / 4 * 128 + l) / 192 < 4 * b + s
    · rw [if_pos h', if_pos (by omega)]
    · rw [if_neg h', if_neg fun h'' => h ⟨by omega, by omega, by omega⟩]

/-- What a point leaves: every output buffer as the whole arrays determine it. -/
theorem Fits.stored (h : Fits A b s σ) (hs : s < 4) {σc σ' : Bufs} (hm : Values.mNew σc = Values.mNew σ) (hv : Values.vNew σc = Values.vNew σ)
    (hmso : ∀ (a : Fin 24) (l : Fin 128), σc.mso (ix2 a l) = scalesAt (stepM A) (4 * b + s) a l)
    (hvso : ∀ (a : Fin 24) (l : Fin 128), σc.vso (ix2 a l) = scalesAt (stepV A) (4 * b + s) a l)
    (st : Stored σc b s 0 192 σ'.mo σ'.mso σ'.vo σ'.vso) :
    (∀ (z : Fin 1) (R : Fin 192) (e : Fin 2048), σ'.mo (ix3 z R e) = codeAt (stepM A) b (192 * s + R) e) ∧
    (∀ (z : Fin 1) (R : Fin 192) (e : Fin 2048), σ'.vo (ix3 z R e) = codeAt (stepV A) b (192 * s + R) e) ∧
    (∀ (a : Fin 24) (l : Fin 128), σ'.mso (ix2 a l) = scalesAt (stepM A) (4 * b + s + 1) a l) ∧
    (∀ (a : Fin 24) (l : Fin 128), σ'.vso (ix2 a l) = scalesAt (stepV A) (4 * b + s + 1) a l) := by
  refine ⟨fun z R e => ?_, fun z R e => ?_, fun a l => ?_, fun a l => ?_⟩
  · rw [st.mo, if_pos ⟨by omega, R.isLt⟩, hm, h.mNew R e R.isLt e.isLt, h.ratioM R R.isLt]; rfl
  · rw [st.vo, if_pos ⟨by omega, R.isLt⟩, hv, h.vNew R e R.isLt e.isLt, h.ratioV R R.isLt]; rfl
  · rw [st.mso, hmso, hm]
    exact scalesAt_step (stepM A) b s a l hs a.isLt l.isLt (X := fun R => scaleOf (ratioOf (Values.mNew σ b s R))) fun R hR => by rw [h.ratioM R hR]
  · rw [st.vso, hvso, hv]
    exact scalesAt_step (stepV A) b s a l hs a.isLt l.isLt (X := fun R => scaleOf (ratioOf (Values.vNew σ b s R))) fun R hR => by rw [h.ratioV R hR]

end Cert.KernelIdeal.Values

end
-- ==== Proof.Windows.lean ====
/-
  What the windows' buffers hold at each grid point, given the arrays as the kernel finds them: the blocks that the windows select,
  and what the body leaves.
-/
module

public import proofs.«01_k».proof.Proof.Global
public import proofs.«01_k».proof.Proof.KernelIdealRun
public import Idealize.ShloMosaic.Lib.Pipeline.ValueKit

@[expose] public section

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Hoare Cert.KernelIdeal.Gen

variable (m : (ℓ : Loc nD τ sig) → Buf (Elt Ideal) ℓ)

/-- The six arrays as the kernel finds them. -/
def arrs (c : Dev nD) : Arrs where
  w := V m c main_v2
  g := V m c main_v5
  mc := V m c main_arg2
  ms := V m c main_v8
  vc := V m c main_arg4
  vs := V m c main_v11

/-- The windows' blocks at a point, by its number. -/
theorem idx : ∀ t : Fin cfg0.N, win0_0.index t = ![t.val, 0, 0] ∧ win0_1.index t = ![t.val, 0, 0] ∧ win0_2.index t = ![t.val / 4, t.val % 4, 0]
    ∧ win0_3.index t = ![0, 0] ∧ win0_4.index t = ![t.val / 4, t.val % 4, 0] ∧ win0_5.index t = ![0, 0] ∧ win0_6.index t = ![t.val, 0, 0]
    ∧ win0_7.index t = ![t.val / 4, t.val % 4, 0] ∧ win0_8.index t = ![0, 0] ∧ win0_9.index t = ![t.val / 4, t.val % 4, 0] ∧ win0_10.index t = ![0, 0] :=
  (by decide +kernel : ∀ t : Fin grid0.N, _)

/-- A point's coordinates, by its number. -/
theorem coords_eq : ∀ t : Fin cfg0.N, (grid0.coords t 0).val = t.val / 4 ∧ (grid0.coords t 1).val = t.val % 4 ∧ (Trip.atFirst (grid0.coords t) = 1#1 ↔ t.val = 0) :=
  (by decide +kernel : ∀ t : Fin grid0.N, _)

/-- The part of a window of 200 rows that lies in its array has 192. -/
theorem xsize_eq : ∀ t : Fin cfg0.N, ∀ a, win0_0.xsize (grid0.coords t) a = ![16, 192, 128] a ∧ win0_1.xsize (grid0.coords t) a = ![16, 192, 128] a
    ∧ win0_6.xsize (grid0.coords t) a = ![16, 192, 128] a :=
  (by decide +kernel : ∀ t : Fin grid0.N, ∀ a, _)

/-- There are 16 points. -/
theorem point_lt (t : Fin cfg0.N) : t.val < 16 := lt_of_lt_of_eq t.isLt N_0

/-- What each window's buffer holds after the body at each point. -/
def afterAt (c : Dev nD) : (w : Fin cfg0.W) → (t : Fin cfg0.N) → (cfg0.win w).block.Idx → Elt Ideal (cfg0.win w).elt
  | 0, t => (cfg0.win 0).fill (grid0.coords t) (fun _ => (0 : EReal)) (iblk m c 0 t)
  | 1, t => (cfg0.win 1).fill (grid0.coords t) (fun _ => (0 : EReal)) (iblk m c 1 t)
  | 2, t => iblk m c 2 t
  | 3, t => iblk m c 3 t
  | 4, t => iblk m c 4 t
  | 5, t => iblk m c 5 t
  | 6, t => fun x : S16x200x128.Idx => weightAt (arrs m c) (t.val / 4) (t.val % 4) (x 0).val (x 1).val (x 2).val
  | 7, t => fun x : S1x192x2048.Idx => codeAt (stepM (arrs m c)) (t.val / 4) (192 * (t.val % 4) + (x 1).val) (x 2).val
  | 8, t => fun x : S24x128.Idx => scalesAt (stepM (arrs m c)) (t.val + 1) (x 0).val (x 1).val
  | 9, t => fun x : S1x192x2048.Idx => codeAt (stepV (arrs m c)) (t.val / 4) (192 * (t.val % 4) + (x 1).val) (x 2).val
  | 10, t => fun x : S24x128.Idx => scalesAt (stepV (arrs m c)) (t.val + 1) (x 0).val (x 1).val
  | ⟨_ + 11, h⟩, _ => absurd h (Nat.not_lt.2 (Nat.le_add_left _ _))

/-- The proof data: the arrays as the region finds them, and what the body leaves. -/
def dats (_ : Fin 1) (c : Dev nD) : Dat τ (Elt Ideal) Unit ℕ (UR sig nD τ) ℕ cfg0 c where
  A w := V m c (Pipeline.arrRef spec0 w)
  after w t := afterAt m c w t
  Φ _ := Pipeline.ΦA spec0 c
  q _ := fullShare
  owed _ := 0

/-- What the arrays hold when the grid starts. -/
theorem A_eq (c : Dev nD) (w : Fin cfg0.W) : (dats m 0 c).A w = V m c (Pipeline.arrRef spec0 w) := by dsimp only [dats]

/-- What the buffers hold when the body starts at a point. -/
structure Starts (c : Dev nD) (t : Fin cfg0.N) (σ : Bufs) : Prop where
  w : ∃ d, σ.w = (cfg0.win 0).fill (grid0.coords t) d (iblk m c 0 t)
  g : ∃ d, σ.g = (cfg0.win 1).fill (grid0.coords t) d (iblk m c 1 t)
  mc : σ.mc = iblk m c 2 t
  ms : σ.ms = iblk m c 3 t
  vc : σ.vc = iblk m c 4 t
  vs : σ.vs = iblk m c 5 t
  mso : t.val ≠ 0 → ∀ (a : Fin 24) (l : Fin 128), σ.mso (ix2 a l) = scalesAt (stepM (arrs m c)) t.val a l
  vso : t.val ≠ 0 → ∀ (a : Fin 24) (l : Fin 128), σ.vso (ix2 a l) = scalesAt (stepV (arrs m c)) t.val a l

/-- What they hold when it ends. -/
structure Ends (c : Dev nD) (t : Fin cfg0.N) (σ : Bufs) : Prop where
  w : ∃ d, σ.w = (cfg0.win 0).fill (grid0.coords t) d ((cfg0.win 0).cut (grid0.coords t) (afterAt m c 0 t))
  g : ∃ d, σ.g = (cfg0.win 1).fill (grid0.coords t) d ((cfg0.win 1).cut (grid0.coords t) (afterAt m c 1 t))
  mc : σ.mc = afterAt m c 2 t
  ms : σ.ms = afterAt m c 3 t
  vc : σ.vc = afterAt m c 4 t
  vs : σ.vs = afterAt m c 5 t
  wo : ∃ d, σ.wo = (cfg0.win 6).fill (grid0.coords t) d ((cfg0.win 6).cut (grid0.coords t) (afterAt m c 6 t))
  mo : σ.mo = afterAt m c 7 t
  mso : σ.mso = afterAt m c 8 t
  vo : σ.vo = afterAt m c 9 t
  vso : σ.vso = afterAt m c 10 t

/-- An element of the weights' buffer, in the part that lies in the array, is the array's. -/
theorem fillW_at (c : Dev nD) (t : Fin cfg0.N) (d : S16x200x128.Idx → EReal) (k u l : Nat) (hk : k < 16) (hu : u < 192) (hl : l < 128) :
    at3 (α := EReal) (a := 16) (b := 200) (c := 128) ((cfg0.win 0).fill (grid0.coords t) d (iblk m c 0 t)) k u l = at3 (arrs m c).w (16 * t.val + k) u l := by
  have ht := point_lt t
  unfold at3 Window.fill
  have hm : (cfg0.win 0).moved (grid0.coords t) (ix3 (Fin.ofNat 16 k) (Fin.ofNat 200 u) (Fin.ofNat 128 l)) = true := by
    rw [Window.moved_iff]
    intro a
    rw [(xsize_eq t a).1]
    fin_cases a
    · show k % 16 < 16; omega
    · show u % 200 < 192; omega
    · show l % 128 < 128; omega
  rw [dif_pos hm]
  blk_simp [iblk, arrs, idx t]
  congr 1
  funext a
  apply Fin.ext
  fin_cases a <;> blk_simp [idx t]
  · show t.val * 16 + k % 16 = (16 * t.val + k) % 256; omega
  · show u % 200 = u % 192; omega
  · rfl

/-- An element of the gradients' buffer likewise. -/
theorem fillG_at (c : Dev nD) (t : Fin cfg0.N) (d : S16x200x128.Idx → EReal) (k u l : Nat) (hk : k < 16) (hu : u < 192) (hl : l < 128) :
    at3 (α := EReal) (a := 16) (b := 200) (c := 128) ((cfg0.win 1).fill (grid0.coords t) d (iblk m c 1 t)) k u l = at3 (arrs m c).g (16 * t.val + k) u l := by
  have ht := point_lt t
  unfold at3 Window.fill
  have hm : (cfg0.win 1).moved (grid0.coords t) (ix3 (Fin.ofNat 16 k) (Fin.ofNat 200 u) (Fin.ofNat 128 l)) = true := by
    rw [Window.moved_iff]
    intro a
    rw [(xsize_eq t a).2.1]
    fin_cases a
    · show k % 16 < 16; omega
    · show u % 200 < 192; omega
    · show l % 128 < 128; omega
  rw [dif_pos hm]
  blk_simp [iblk, arrs, idx t]
  congr 1
  funext a
  apply Fin.ext
  fin_cases a <;> blk_simp [idx t]
  · show t.val * 16 + k % 16 = (16 * t.val + k) % 256; omega
  · show u % 200 = u % 192; omega
  · rfl

/-- An element of the first moment's codes. -/
theorem codesM_at (c : Dev nD) (t : Fin cfg0.N) (R e : Nat) (hR : R < 192) (he : e < 2048) :
    at3 (α := EReal) (a := 1) (b := 192) (c := 2048) (iblk m c 2 t) 0 R e = at3 (arrs m c).mc (t.val / 4) (192 * (t.val % 4) + R) e := by
  have ht := point_lt t
  unfold at3
  blk_simp [iblk, arrs, idx t]
  congr 1
  funext a
  apply Fin.ext
  fin_cases a <;> blk_simp [idx t]
  · show t.val / 4 = (t.val / 4) % 4; omega
  · show t.val % 4 * 192 + R % 192 = (192 * (t.val % 4) + R) % 768; omega
  · rfl

/-- An element of the second moment's codes. -/
theorem codesV_at (c : Dev nD) (t : Fin cfg0.N) (R e : Nat) (hR : R < 192) (he : e < 2048) :
    at3 (α := EReal) (a := 1) (b := 192) (c := 2048) (iblk m c 4 t) 0 R e = at3 (arrs m c).vc (t.val / 4) (192 * (t.val % 4) + R) e := by
  have ht := point_lt t
  unfold at3
  blk_simp [iblk, arrs, idx t]
  congr 1
  funext a
  apply Fin.ext
  fin_cases a <;> blk_simp [idx t]
  · show t.val / 4 = (t.val / 4) % 4; omega
  · show t.val % 4 * 192 + R % 192 = (192 * (t.val % 4) + R) % 768; omega
  · rfl

/-- The scales of the first moment are wholly in their buffer. -/
theorem scalesM_eq (c : Dev nD) (t : Fin cfg0.N) : (iblk m c 3 t : S24x128.Idx → EReal) = (arrs m c).ms := by
  funext x
  blk_simp [iblk, arrs, idx t]
  congr 1
  funext a
  apply Fin.ext
  fin_cases a <;> blk_simp [idx t]

/-- The scales of the second. -/
theorem scalesV_eq (c : Dev nD) (t : Fin cfg0.N) : (iblk m c 5 t : S24x128.Idx → EReal) = (arrs m c).vs := by
  funext x
  blk_simp [iblk, arrs, idx t]
  congr 1
  funext a
  apply Fin.ext
  fin_cases a <;> blk_simp [idx t]

/-- The buffers, as the body finds them, hold the point's windows of the arrays. -/
theorem Starts.fits {c : Dev nD} {t : Fin cfg0.N} {σ : Bufs} (h : Starts m c t σ) : Fits (arrs m c) (t.val / 4) (t.val % 4) σ where
  w k u l hk hu hl := by
    obtain ⟨d, e⟩ := h.w
    rw [e, show 4 * (t.val / 4) + t.val % 4 = t.val by omega]
    exact fillW_at m c t d k u l hk hu hl
  g k u l hk hu hl := by
    obtain ⟨d, e⟩ := h.g
    rw [e, show 4 * (t.val / 4) + t.val % 4 = t.val by omega]
    exact fillG_at m c t d k u l hk hu hl
  mc R e hR he := by rw [h.mc]; exact codesM_at m c t R e hR he
  vc R e hR he := by rw [h.vc]; exact codesV_at m c t R e hR he
  ms := by rw [h.ms]; exact scalesM_eq m c t
  vs := by rw [h.vs]; exact scalesV_eq m c t

/-- What the body's run makes of its buffers is what they hold when it ends. -/
theorem Starts.ends {c : Dev nD} {t : Fin cfg0.N} {σ σ' : Bufs} (h : Starts m c t σ) (hb : Became σ σ')
    (hst : Stored (cleared (grid0.coords t) σ) (grid0.coords t 0).val (grid0.coords t 1).val 0 192 σ'.mo σ'.mso σ'.vo σ'.vso)
    (hwo : ∀ (k : Fin 16) (u : Fin 200) (l : Fin 128), u.val < 192 → σ'.wo (ix3 k u l) = wOut σ (grid0.coords t 0).val (grid0.coords t 1).val k u l) :
    Ends m c t σ' := by
  obtain ⟨e0, e1, hz⟩ := coords_eq t
  rw [e0, e1] at hst hwo
  have hfit := h.fits
  have ht : 4 * (t.val / 4) + t.val % 4 = t.val := by omega
  have hcm : mNew (cleared (grid0.coords t) σ) = mNew σ := by unfold cleared; split <;> rfl
  have hcv : vNew (cleared (grid0.coords t) σ) = vNew σ := by unfold cleared; split <;> rfl
  have hmso : ∀ (a : Fin 24) (l : Fin 128), (cleared (grid0.coords t) σ).mso (ix2 a l) = scalesAt (stepM (arrs m c)) (4 * (t.val / 4) + t.val % 4) a l := by
    intro a l
    rw [ht]
    by_cases h0 : t.val = 0
    · unfold cleared scalesAt; rw [if_pos (hz.mpr h0), if_neg (by omega)]
    · unfold cleared; rw [if_neg (fun h' => h0 (hz.mp h'))]; exact h.mso h0 a l
  have hvso : ∀ (a : Fin 24) (l : Fin 128), (cleared (grid0.coords t) σ).vso (ix2 a l) = scalesAt (stepV (arrs m c)) (4 * (t.val / 4) + t.val % 4) a l := by
    intro a l
    rw [ht]
    by_cases h0 : t.val = 0
    · unfold cleared scalesAt; rw [if_pos (hz.mpr h0), if_neg (by omega)]
    · unfold cleared; rw [if_neg (fun h' => h0 (hz.mp h'))]; exact h.vso h0 a l
  obtain ⟨r1, r2, r3, r4⟩ := hfit.stored (by omega) hcm hcv hmso hvso hst
  rw [ht] at r3 r4
  obtain ⟨wo, mo, mso, vo, vso, fw, fg, fm, fv, rfl⟩ := hb
  refine ⟨?_, ?_, h.mc, h.ms, h.vc, h.vs, ⟨wo, ?_⟩, ?_, ?_, ?_, ?_⟩
  · obtain ⟨d, e⟩ := h.w
    exact ⟨d, e.trans (congrArg _ ((cfg0.win 0).cut_fill (grid0.coords t) _ _).symm)⟩
  · obtain ⟨d, e⟩ := h.g
    exact ⟨d, e.trans (congrArg _ ((cfg0.win 1).cut_fill (grid0.coords t) _ _).symm)⟩
  · refine ((cfg0.win 6).fill_cut (grid0.coords t) wo).symm.trans (congrArg _ ?_)
    funext x
    have h1 : (x 1).val < 192 := lt_of_lt_of_eq (x 1).isLt (xsize_eq t 1).2.2
    have h0 : (x 0).val < 16 := lt_of_lt_of_eq (x 0).isLt (xsize_eq t 0).2.2
    have h2 : (x 2).val < 128 := lt_of_lt_of_eq (x 2).isLt (xsize_eq t 2).2.2
    have := (hwo ⟨(x 0).val, h0⟩ ⟨(x 1).val, by omega⟩ ⟨(x 2).val, h2⟩ h1).trans (hfit.wOut _ _ _ h0 h1 h2)
    refine Eq.trans ?_ this
    show wo _ = wo _
    congr 1
    funext a
    apply Fin.ext
    fin_cases a <;> rfl
  · funext x
    idx_vars x
    exact r1 _ _ _
  · funext x
    idx_vars x
    exact r3 _ _
  · funext x
    idx_vars x
    exact r2 _ _ _
  · funext x
    idx_vars x
    exact r4 _ _

end Cert.KernelIdeal.Values

end
-- ==== Proof.Launched.lean ====
/-
  The kernel's run with the values it leaves: the body's obligation at every grid point, and the state after @main.
-/
module

public import proofs.«01_k».proof.Proof.Windows

@[expose] public section

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Hoare Cert.KernelIdeal.Gen

variable (m : (ℓ : Loc nD τ sig) → Buf (Elt Ideal) ℓ) (ρ : Dev nD → PrngReg)

/-- The contents of the buffers as the family of memrefs orders them. -/
def tuple (σ : Bufs) := (σ.w, σ.g, σ.mc, σ.ms, σ.vc, σ.vs, σ.wo, σ.mo, σ.mso, σ.vo, σ.vso, σ.fw, σ.fg, σ.fm, σ.fv, ())

/-- The point's buffers, held at their contents. -/
def held (c : Dev nD) (t : Fin cfg0.N) (σ : Bufs) : sProp (MT nD τ sig Unit (Elt Ideal) ℕ (UR sig nD τ) ℕ) := Stays.family (F := Ideal) c t (tuple σ)

/-- The body at a point, run over its buffers. -/
theorem run_point (c : Dev nD) (t : Fin cfg0.N) (σ : Bufs) (h : Starts m c t σ) :
    Runs (defs₀ (F := Ideal)) c (held c t) (bodyAt0 t) σ fun _ σ' => Ends m c t σ' :=
  run_mono (run_body (⟨fun _ => rfl, fun σ => ((Lens.head ..)).out (tuple σ)⟩) (⟨fun _ => rfl, fun σ => ((Lens.head ..).tail).out (tuple σ)⟩) (⟨fun _ => rfl, fun σ => ((Lens.head ..).tail.tail).out (tuple σ)⟩) (⟨fun _ => rfl, fun σ => ((Lens.head ..).tail.tail.tail).out (tuple σ)⟩) (⟨fun _ => rfl, fun σ => ((Lens.head ..).tail.tail.tail.tail).out (tuple σ)⟩) (⟨fun _ => rfl, fun σ => ((Lens.head ..).tail.tail.tail.tail.tail).out (tuple σ)⟩) (⟨fun _ => rfl, fun σ => ((Lens.head ..).tail.tail.tail.tail.tail.tail).out (tuple σ)⟩) (⟨fun _ => rfl, fun σ => ((Lens.head ..).tail.tail.tail.tail.tail.tail.tail).out (tuple σ)⟩) (⟨fun _ => rfl, fun σ => ((Lens.head ..).tail.tail.tail.tail.tail.tail.tail.tail).out (tuple σ)⟩) (⟨fun _ => rfl, fun σ => ((Lens.head ..).tail.tail.tail.tail.tail.tail.tail.tail.tail).out (tuple σ)⟩) (⟨fun _ => rfl, fun σ => ((Lens.head ..).tail.tail.tail.tail.tail.tail.tail.tail.tail.tail).out (tuple σ)⟩) (⟨fun _ => rfl, fun σ => ((Lens.head ..).tail.tail.tail.tail.tail.tail.tail.tail.tail.tail.tail).out (tuple σ)⟩) (⟨fun _ => rfl, fun σ => ((Lens.head ..).tail.tail.tail.tail.tail.tail.tail.tail.tail.tail.tail.tail).out (tuple σ)⟩) (⟨fun _ => rfl, fun σ => ((Lens.head ..).tail.tail.tail.tail.tail.tail.tail.tail.tail.tail.tail.tail.tail).out (tuple σ)⟩) (⟨fun _ => rfl, fun σ => ((Lens.head ..).tail.tail.tail.tail.tail.tail.tail.tail.tail.tail.tail.tail.tail.tail).out (tuple σ)⟩) _ _ _ _ _ _ _ _ _ _ _ _ _ _ _ (grid0.coords t) σ) fun _ _ r => h.ends m r.1 r.2.1 r.2.2

/-- What the body is called with at a point. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
/-- What it returns. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ (∃ d, owns (c : Thread nD τ) (st0_0 t) fullShare ((cfg0.win 0).fill (grid0.coords t) d ((cfg0.win 0).cut (grid0.coords t) ((dats m 0 c).after 0 t)))) ∗ (∃ d, owns (c : Thread nD τ) (st0_1 t) fullShare ((cfg0.win 1).fill (grid0.coords t) d ((cfg0.win 1).cut (grid0.coords t) ((dats m 0 c).after 1 t)))) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ d, owns (c : Thread nD τ) (st0_6 t) fullShare ((cfg0.win 6).fill (grid0.coords t) d ((cfg0.win 6).cut (grid0.coords t) ((dats m 0 c).after 6 t)))) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

/-- Between points the four working arrays are held, with any contents. -/
theorem phi_eq (c : Dev nD) (t : Fin (cfg0.N + 1)) : (dats m 0 c).Φ t = iprop(
    ((∃ f, owns (c : Thread nD τ) (Memref.whole cc0_scratch0) fullShare f) ∗ (∃ f, owns (c : Thread nD τ) (Memref.whole cc0_scratch1) fullShare f) ∗ (∃ f, owns (c : Thread nD τ) (Memref.whole cc0_scratch2) fullShare f) ∗ (∃ f, owns (c : Thread nD τ) (Memref.whole cc0_scratch3) fullShare f)) ∗ (∃ r, prngReg c r)) := by
  simp only [owns_whole]
  rw [← scopedRest0_eq]
  rfl

/-- A scale window, carried from the point before, holds what that point left. -/
theorem before_carried (c : Dev nD) (w : Fin cfg0.W) (t : Fin cfg0.N) (h0 : t.val ≠ 0) (hf : (cfg0.win w).fetch t = false)
    (hfl : (cfg0.win w).flush ⟨t.val - 1, Nat.lt_of_le_of_lt (Nat.sub_le _ _) t.isLt⟩ = false) (d) :
    (dats m 0 c).before w t d = (dats m 0 c).left w ⟨t.val - 1, Nat.lt_of_le_of_lt (Nat.sub_le _ _) t.isLt⟩ d := by
  rw [Dat.before_of_pos _ _ _ h0 hf, hfl]; rfl

/-- The buffers as the pipeline hands them over are as the body's run asks. -/
theorem starts (c : Dev nD) (t : Fin cfg0.N) (D0 D1 D2 D3 D4 D5 D8 D10) (wo mo vo fw fg fm fv) :
    Starts m c t ⟨(dats m 0 c).before 0 t D0, (dats m 0 c).before 1 t D1, (dats m 0 c).before 2 t D2, (dats m 0 c).before 3 t D3, (dats m 0 c).before 4 t D4, (dats m 0 c).before 5 t D5,
      wo, mo, (dats m 0 c).before 8 t D8, vo, (dats m 0 c).before 10 t D10, fw, fg, fm, fv⟩ where
  w := ⟨D0, by dsimp only; unfold Dat.before; rw [if_pos (fetch0_0 t)]; unfold Dat.fetched Dat.blockOf iblk; rw [A_eq]⟩
  g := ⟨D1, by dsimp only; unfold Dat.before; rw [if_pos (fetch0_1 t)]; unfold Dat.fetched Dat.blockOf iblk; rw [A_eq]⟩
  mc := before0_2_of m (dats m 0 c) (A_eq m c 2) (fun _ => rfl) t D2
  ms := before0_3_of m (dats m 0 c) (A_eq m c 3) (fun _ => rfl) t D3
  vc := before0_4_of m (dats m 0 c) (A_eq m c 4) (fun _ => rfl) t D4
  vs := before0_5_of m (dats m 0 c) (A_eq m c 5) (fun _ => rfl) t D5
  mso h0 a l := by
    have hlt := point_lt t
    dsimp only
    rw [before_carried m c 8 t h0 rfl (Bool.eq_false_iff.mpr fun h => by have := (flush0_8 _).mp h; dsimp only at this; omega)]
    show scalesAt _ (t.val - 1 + 1) a l = _
    rw [show t.val - 1 + 1 = t.val by omega]
  vso h0 a l := by
    have hlt := point_lt t
    dsimp only
    rw [before_carried m c 10 t h0 rfl (Bool.eq_false_iff.mpr fun h => by have := (flush0_10 _).mp h; dsimp only at this; omega)]
    show scalesAt _ (t.val - 1 + 1) a l = _
    rw [show t.val - 1 + 1 = t.val by omega]

/-- What the body is called with, as the buffers of its run. -/
theorem to_held (c : Dev nD) (t : Fin cfg0.N) : bodyPre m c t ⊢
    iprop((∃ σ, ⌜Starts m c t σ⌝ ∗ held c t σ) ∗ ((∃ r, prngReg c r) ∗ (dats m 0 c).owesAt () t.castSucc)) := by
  unfold bodyPre
  rw [phi_eq]
  iintro ⟨⟨⟨⟨%s0, S0⟩, ⟨%s1, S1⟩, ⟨%s2, S2⟩, ⟨%s3, S3⟩⟩, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  isplitr [HP HO]
  swap
  · isplitl [HP]
    · iexact HP
    · iexact HO
  iexists ⟨(dats m 0 c).before 0 t d0, (dats m 0 c).before 1 t d1, (dats m 0 c).before 2 t d2, (dats m 0 c).before 3 t d3, (dats m 0 c).before 4 t d4, (dats m 0 c).before 5 t d5,
    (dats m 0 c).before 6 t d6, (dats m 0 c).before 7 t d7, (dats m 0 c).before 8 t d8, (dats m 0 c).before 9 t d9, (dats m 0 c).before 10 t d10, s0, s1, s2, s3⟩
  isplitr
  · ipureintro; exact starts m c t d0 d1 d2 d3 d4 d5 d8 d10 _ _ _ _ _ _ _
  unfold held Stays.family tuple Also
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [S0]
  · iexact S0
  isplitl [S1]
  · iexact S1
  isplitl [S2]
  · iexact S2
  isplitl [S3]
  · iexact S3
  unfold Nothing
  iempintro

/-- The buffers as the body's run leaves them, handed back. -/
theorem of_held (c : Dev nD) (t : Fin cfg0.N) :
    iprop((∃ σ, ⌜Ends m c t σ⌝ ∗ held c t σ) ∗ ((∃ r, prngReg c r) ∗ (dats m 0 c).owesAt () t.castSucc)) ⊢ bodyPost m c t := by
  unfold bodyPost held Stays.family tuple Also
  rw [phi_eq]
  iintro ⟨⟨%σ, %h, H0, H1, H2, H3, H4, H5, H6, H7, H8, H9, H10, S0, S1, S2, S3, -⟩, HP, HO⟩
  obtain ⟨⟨x0, h0⟩, ⟨x1, h1⟩, h2, h3, h4, h5, ⟨x6, h6⟩, h7, h8, h9, h10⟩ := h
  isplitl [S0 S1 S2 S3 HP]
  · isplitr [HP]
    · isplitl [S0]
      · iexists σ.fw; iexact S0
      isplitl [S1]
      · iexists σ.fg; iexact S1
      isplitl [S2]
      · iexists σ.fm; iexact S2
      iexists σ.fv; iexact S3
    · iexact HP
  isplitl [HO]
  · iexact HO
  isplitl [H0]
  · iexists x0; rw [h0]; iexact H0
  isplitl [H1]
  · iexists x1; rw [h1]; iexact H1
  isplitl [H2]
  · rw [h2]; iexact H2
  isplitl [H3]
  · rw [h3]; iexact H3
  isplitl [H4]
  · rw [h4]; iexact H4
  isplitl [H5]
  · rw [h5]; iexact H5
  isplitl [H6]
  · iexists x6; rw [h6]; iexact H6
  isplitl [H7]
  · rw [h7]; iexact H7
  isplitl [H8]
  · rw [h8]; iexact H8
  isplitl [H9]
  · rw [h9]; iexact H9
  rw [h10]; iexact H10

/-- The body at a point. -/
theorem sound_body (c : Dev nD) (t : Fin cfg0.N) :
    bodyPre m c t ⊢ wp frame (wpE (defs₀ (F := Ideal)) Variants.none c none) Set.univ (bodyAt0 t) (fun _ => bodyPost m c t) :=
  BIBase.Entails.trans (to_held m c t) (BIBase.Entails.trans (runs_frame (run_point m c t) _) (wp_mono _ _ _ fun _ => of_held m c t))

/-- The library's body obligation. -/
theorem body_obligation (c : Dev nD) : BodyObligationLoose (dats m 0 c) (defs₀ (F := Ideal)) Variants.none () Set.univ := fun t => by
  rw [bigSep_W0, bigSep_W0, Stays.defs₀_rowF]
  exact triple_restated (sound_body m c t) rfl .rfl fun _ => .rfl

/-- Every fair execution of @main ends, with the arrays as the windows' write-backs and the lines after the kernel make them and every
    semaphore counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) sfx_sub sfx_fresh sfx_keeps (hmain m Variants.none)
    (hA := A_eq m) (hΦ := fun _ _ => rfl) (hQ' := fun _ h => h)

end Cert.KernelIdeal.Values

end
-- ==== Proof.Answers.lean ====
/-
  The five results as functions of the six arguments, in the row-major order of the tensors: element `e` of block `n` of a batch
  of the weights is the element `2048 n + e` of the batch's 512 × 3072.
-/
module

public import proofs.«01_k».proof.Proof.Global

@[expose] public section

set_option maxRecDepth 16384

noncomputable section

namespace Cert.KernelIdeal.Values

open Idealize.ShloMosaic Idealize.SL.Sem

/-- The six arguments: weights, gradients, and the codes and scales of the two moments. -/
structure Args where
  w : Vec Ideal S4x512x3072 .bf16
  g : Vec Ideal S4x512x3072 .bf16
  mc : Vec Ideal S4x768x2048 .fp8e4m3
  ms : Vec Ideal S4x768 .f32
  vc : Vec Ideal S4x768x2048 .fp8e4m3
  vs : Vec Ideal S4x768 .f32

/-- Element `e` of block `n` of batch `b`. -/
def flat (X : Vec Ideal S4x512x3072 .bf16) (b n e : Nat) : EReal := at3 X b ((n * 2048 + e) / 3072) ((n * 2048 + e) % 3072)
/-- The first moment's element `e` of block `n` of batch `b`, stepped. -/
def nextM (a : Args) (b n e : Nat) : EReal := updM (at2 a.ms b n) (at3 a.mc b n e) (flat a.g b n e)
/-- The second moment's. -/
def nextV (a : Args) (b n e : Nat) : EReal := updV (at2 a.vs b n) (at3 a.vc b n e) (flat a.g b n e)
/-- The weight's. -/
def nextW (a : Args) (b n e : Nat) : EReal := updW (flat a.w b n e) (nextM a b n e) (nextV a b n e)

/-- The new weights. -/
def weights (a : Args) : Vec Ideal S4x512x3072 .bf16 := fun x =>
  nextW a (x 0).val (((x 1).val * 3072 + (x 2).val) / 2048) (((x 1).val * 3072 + (x 2).val) % 2048)
/-- The new codes of a moment `f`. -/
def codes (f : Nat → Nat → Nat → EReal) : Vec Ideal S4x768x2048 .fp8e4m3 := fun x => codeAt f (x 0).val (x 1).val (x 2).val
/-- The new scales of a moment `f`. -/
def scales (f : Nat → Nat → Nat → EReal) : Vec Ideal S4x768 .f32 := fun x => scaleOf (ratioOf (f (x 0).val (x 1).val))

end Cert.KernelIdeal.Values

end
-- ==== Proof.Inputs.lean ====
/-
  The arrays that the kernel is given, from the arguments: the host operations before it reshape and transpose the weights, the
  gradients and the scales, so that each block's elements and scale lie where the kernel reads them.
-/
module

public import proofs.«01_k».proof.Proof.Answers
public import proofs.«01_k».proof.Proof.Windows

@[expose] public section

set_option maxRecDepth 16384

noncomputable section

namespace Cert.KernelIdeal.Values

open Idealize.ShloMosaic Idealize.ShloMosaic.TcCoe Idealize.ShloMosaic.Tactic
open Idealize.SL.Sem
open Cert.KernelIdeal.Gen

variable (m : (ℓ : Loc nD τ sig) → Buf (Elt Ideal) ℓ)

/-- The arguments. -/
def args (c : Dev nD) : Args where
  w := m ((c : Thread nD τ).loc main_arg0)
  g := m ((c : Thread nD τ).loc main_arg1)
  mc := m ((c : Thread nD τ).loc main_arg2)
  ms := m ((c : Thread nD τ).loc main_arg3)
  vc := m ((c : Thread nD τ).loc main_arg4)
  vs := m ((c : Thread nD τ).loc main_arg5)

/-- The weights' rows in groups of eight, each 128 columns of a group's eight rows together. -/
theorem groups_at (X : Vec Ideal S4x512x3072 .bf16) (G : Fin 256) (u : Fin 192) (l : Fin 128) :
    shapeCast S256x192x128 (transpose S4x64x24x8x128 [0, 1, 3, 2, 4] (shapeCast S4x64x8x24x128 X shapeCasts_S4x512x3072_S4x64x8x24x128)
      transposes_S4x64x8x24x128_S4x64x24x8x128_0_1_3_2_4) shapeCasts_S4x64x24x8x128_S256x192x128 (ix3 G u l)
      = at3 X (G.val / 64) (8 * (G.val % 64) + u.val % 8) (u.val / 8 * 128 + l.val) := by
  pointwise
  refine at3_of X _ ?_ ?_ ?_
  · rfl
  · show G.val % 64 * 8 + u.val % 8 = _; omega
  · rfl

/-- The weights as the kernel finds them. -/
theorem w_read (c : Dev nD) : (arrs m c).w = shapeCast S256x192x128 (transpose S4x64x24x8x128 [0, 1, 3, 2, 4]
    (shapeCast S4x64x8x24x128 (args m c).w shapeCasts_S4x512x3072_S4x64x8x24x128)
      transposes_S4x64x8x24x128_S4x64x24x8x128_0_1_3_2_4) shapeCasts_S4x64x24x8x128_S256x192x128 := by
  show V m c main_v2 = _
  unfold_abbrev_sides
  after_results
  rfl

/-- The gradients as the kernel finds them. -/
theorem g_read (c : Dev nD) : (arrs m c).g = shapeCast S256x192x128 (transpose S4x64x24x8x128 [0, 1, 3, 2, 4]
    (shapeCast S4x64x8x24x128 (args m c).g shapeCasts_S4x512x3072_S4x64x8x24x128)
      transposes_S4x64x8x24x128_S4x64x24x8x128_0_1_3_2_4) shapeCasts_S4x64x24x8x128_S256x192x128 := by
  show V m c main_v5 = _
  unfold_abbrev_sides
  after_results
  rfl

/-- The scales' cells, 128 blocks of a batch to a row. -/
theorem cells_at (X : Vec Ideal S4x768 .f32) (a : Fin 24) (l : Fin 128) :
    shapeCast S24x128 (transpose S6x4x128 [1, 0, 2] (shapeCast S4x6x128 X shapeCasts_S4x768_S4x6x128) transposes_S4x6x128_S6x4x128_1_0_2)
      shapeCasts_S6x4x128_S24x128 (ix2 a l) = at2 X (a.val % 4) (a.val / 4 * 128 + l.val) := by
  pointwise
  exact at2_of X _ rfl rfl

/-- The first moment's scales as the kernel finds them. -/
theorem ms_read (c : Dev nD) : (arrs m c).ms = shapeCast S24x128 (transpose S6x4x128 [1, 0, 2] (shapeCast S4x6x128 (args m c).ms shapeCasts_S4x768_S4x6x128)
    transposes_S4x6x128_S6x4x128_1_0_2) shapeCasts_S6x4x128_S24x128 := by
  show V m c main_v8 = _
  unfold_abbrev_sides
  after_results
  rfl

/-- The second moment's scales as the kernel finds them. -/
theorem vs_read (c : Dev nD) : (arrs m c).vs = shapeCast S24x128 (transpose S6x4x128 [1, 0, 2] (shapeCast S4x6x128 (args m c).vs shapeCasts_S4x768_S4x6x128)
    transposes_S4x6x128_S6x4x128_1_0_2) shapeCasts_S6x4x128_S24x128 := by
  show V m c main_v11 = _
  unfold_abbrev_sides
  after_results
  rfl

/-- An element of a block, from the argument. -/
theorem blockElem_eq {Y : Vec Ideal S256x192x128 .bf16} {X : Vec Ideal S4x512x3072 .bf16}
    (h : Y = shapeCast S256x192x128 (transpose S4x64x24x8x128 [0, 1, 3, 2, 4] (shapeCast S4x64x8x24x128 X shapeCasts_S4x512x3072_S4x64x8x24x128)
      transposes_S4x64x8x24x128_S4x64x24x8x128_0_1_3_2_4) shapeCasts_S4x64x24x8x128_S256x192x128)
    (b n e : Nat) (hb : b < 4) (hn : n < 768) (he : e < 2048) : blockElem Y b n e = flat X b n e := by
  subst h
  have hc := colOf_lt n (e / 128) (by omega)
  unfold blockElem flat
  rw [show ∀ (i j k : Nat) (hi : i < 256) (hj : j < 192) (hk : k < 128) (Z : Vec Ideal S256x192x128 .bf16),
    at3 Z i j k = Z (ix3 (⟨i, hi⟩ : Fin 256) (⟨j, hj⟩ : Fin 192) (⟨k, hk⟩ : Fin 128)) from
      fun i j k hi hj hk Z => (at3_eq Z ⟨i, hi⟩ ⟨j, hj⟩ ⟨k, hk⟩).symm,
    groups_at]
  · have d8 : colOf n (e / 128) / 8 = (16 * (n % 12 % 3) + e / 128) % 24 := by unfold colOf; omega
    have m8 : colOf n (e / 128) % 8 = 2 * (n % 12 / 3) + (16 * (n % 12 % 3) + e / 128) / 24 := by unfold colOf; omega
    have hf : n * 2048 + e = (8 * (n / 12) + (2 * (n % 12 / 3) + (16 * (n % 12 % 3) + e / 128) / 24)) * 3072
        + ((16 * (n % 12 % 3) + e / 128) % 24 * 128 + e % 128) := by omega
    dsimp only
    rw [d8, m8]
    have hy : (16 * (n % 12 % 3) + e / 128) % 24 < 24 := Nat.mod_lt _ (by omega)
    generalize (16 * (n % 12 % 3) + e / 128) % 24 = y at *
    generalize 2 * (n % 12 / 3) + (16 * (n % 12 % 3) + e / 128) / 24 = z at *
    have hq : (n * 2048 + e) / 3072 = 8 * (n / 12) + z := by
      rw [hf, Nat.add_comm, Nat.add_mul_div_right _ _ (by omega : 0 < 3072), Nat.div_eq_of_lt (by omega), Nat.zero_add]
    have hr : (n * 2048 + e) % 3072 = y * 128 + e % 128 := by
      rw [hf, Nat.add_comm, Nat.add_mul_mod_self_right, Nat.mod_eq_of_lt (by omega)]
    have hb' : (64 * b + n / 12) / 64 = b := by omega
    have hb'' : (64 * b + n / 12) % 64 = n / 12 := by omega
    rw [hq, hr, hb', hb'']
  all_goals omega

/-- A block's scale, from the argument. -/
theorem blockScale_eq {S : Vec Ideal S24x128 .f32} {X : Vec Ideal S4x768 .f32}
    (h : S = shapeCast S24x128 (transpose S6x4x128 [1, 0, 2] (shapeCast S4x6x128 X shapeCasts_S4x768_S4x6x128)
      transposes_S4x6x128_S6x4x128_1_0_2) shapeCasts_S6x4x128_S24x128)
    (b n : Nat) (hb : b < 4) (hn : n < 768) : blockScale S b n = at2 X b n := by
  subst h
  unfold blockScale
  rw [show ∀ (i j : Nat) (hi : i < 24) (hj : j < 128) (Z : Vec Ideal S24x128 .f32),
    at2 Z i j = Z (ix2 (⟨i, hi⟩ : Fin 24) (⟨j, hj⟩ : Fin 128)) from
      fun i j hi hj Z => (at2_eq Z ⟨i, hi⟩ ⟨j, hj⟩).symm,
    cells_at]
  · congr 1 <;> dsimp only <;> omega
  all_goals omega

/-- The first moment stepped, from the arguments. -/
theorem stepM_eq (c : Dev nD) (b n e : Nat) (hb : b < 4) (hn : n < 768) (he : e < 2048) : stepM (arrs m c) b n e = nextM (args m c) b n e := by
  unfold stepM nextM
  rw [blockScale_eq (ms_read m c) b n hb hn, blockElem_eq (g_read m c) b n e hb hn he,
    show (arrs m c).mc = (args m c).mc from V_main_arg2 m c]

/-- The second moment stepped, from the arguments. -/
theorem stepV_eq (c : Dev nD) (b n e : Nat) (hb : b < 4) (hn : n < 768) (he : e < 2048) : stepV (arrs m c) b n e = nextV (args m c) b n e := by
  unfold stepV nextV
  rw [blockScale_eq (vs_read m c) b n hb hn, blockElem_eq (g_read m c) b n e hb hn he,
    show (arrs m c).vc = (args m c).vc from V_main_arg4 m c]

/-- The weight stepped, from the arguments. -/
theorem stepW_eq (c : Dev nD) (b n e : Nat) (hb : b < 4) (hn : n < 768) (he : e < 2048) : stepW (arrs m c) b n e = nextW (args m c) b n e := by
  unfold stepW nextW
  rw [blockElem_eq (w_read m c) b n e hb hn he, stepM_eq m c b n e hb hn he, stepV_eq m c b n e hb hn he]

end Cert.KernelIdeal.Values

end
-- ==== Proof.Results.lean ====
/-
  The result arrays of the kernel after the last grid point, each as a function of its index.
-/
module

public import proofs.«01_k».proof.Proof.Launched
public import proofs.«01_k».proof.Proof.Inputs

@[expose] public section

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Hoare Cert.KernelIdeal.Gen

variable (m : (ℓ : Loc nD τ sig) → Buf (Elt Ideal) ℓ)

/-- The new weights, in groups of rows. -/
theorem final_w (c : Dev nD) : (dats m 0 c).arrAt 6 (cfgs 0).N
    = fun x : S256x192x128.Idx => weightAt (arrs m c) ((x 0).val / 64) ((x 0).val % 64 / 16) ((x 0).val % 16) (x 1).val (x 2).val := by
  refine (dats m 0 c).arrAt_eq_of_covers 6 _ (by decide +kernel) fun t hf y => ?_
  have ht := point_lt t
  blk_simp [idx t]
  show weightAt (arrs m c) (t.val / 4) (t.val % 4) (y 0).val (y 1).val (y 2).val = _
  have h0 : (y 0).val < 16 := lt_of_lt_of_eq (y 0).isLt (xsize_eq t 0).2.2
  congr 1 <;> omega

/-- The new codes of the first moment. -/
theorem final_mc (c : Dev nD) : (dats m 0 c).arrAt 7 (cfgs 0).N
    = fun x : S4x768x2048.Idx => codeAt (stepM (arrs m c)) (x 0).val (x 1).val (x 2).val := by
  refine (dats m 0 c).arrAt_eq_of_covers 7 _ (by decide +kernel) fun t hf y => ?_
  have ht := point_lt t
  blk_simp [idx t]
  show codeAt (stepM (arrs m c)) (t.val / 4) (192 * (t.val % 4) + (y 1).val) (y 2).val = _
  rw [Nat.mul_comm 192]

/-- The new scales of the first moment. -/
theorem final_ms (c : Dev nD) : (dats m 0 c).arrAt 8 (cfgs 0).N
    = fun x : S24x128.Idx => scaleOf (ratioOf (stepM (arrs m c) ((x 0).val % 4) ((x 0).val / 4 * 128 + (x 1).val))) := by
  refine (dats m 0 c).arrAt_eq_of_after_last 8 t0_15 (by decide +kernel) _ fun j => ?_
  blk_simp [idx t0_15]
  show scalesAt (stepM (arrs m c)) (t0_15.val + 1) (j 0).val (j 1).val = _
  unfold scalesAt
  have h0 : (j 0).val < 24 := (j 0).isLt
  have h1 : (j 1).val < 128 := (j 1).isLt
  have e : t0_15.val = 15 := by decide +kernel
  rw [if_pos (by omega), zero_add]

/-- The new codes of the second moment. -/
theorem final_vc (c : Dev nD) : (dats m 0 c).arrAt 9 (cfgs 0).N
    = fun x : S4x768x2048.Idx => codeAt (stepV (arrs m c)) (x 0).val (x 1).val (x 2).val := by
  refine (dats m 0 c).arrAt_eq_of_covers 9 _ (by decide +kernel) fun t hf y => ?_
  have ht := point_lt t
  blk_simp [idx t]
  show codeAt (stepV (arrs m c)) (t.val / 4) (192 * (t.val % 4) + (y 1).val) (y 2).val = _
  rw [Nat.mul_comm 192]

/-- The new scales of the second moment. -/
theorem final_vs (c : Dev nD) : (dats m 0 c).arrAt 10 (cfgs 0).N
    = fun x : S24x128.Idx => scaleOf (ratioOf (stepV (arrs m c) ((x 0).val % 4) ((x 0).val / 4 * 128 + (x 1).val))) := by
  refine (dats m 0 c).arrAt_eq_of_after_last 10 t0_15 (by decide +kernel) _ fun j => ?_
  blk_simp [idx t0_15]
  show scalesAt (stepV (arrs m c)) (t0_15.val + 1) (j 0).val (j 1).val = _
  unfold scalesAt
  have h0 : (j 0).val < 24 := (j 0).isLt
  have h1 : (j 1).val < 128 := (j 1).isLt
  have e : t0_15.val = 15 := by decide +kernel
  rw [if_pos (by omega), zero_add]

/-- No two windows share an array. -/
theorem arr_inj : Function.Injective (Pipeline.arrRef spec0) := by decide +kernel

/-- The new weights, back in the order of the tensor: what the host operations after the kernel make of them. -/
theorem tail_w (c : Dev nD) : Pipeline.afterTail₀ cfgs (dats m) 0 (V0 m) [hostOps1] c main_v15 =
    shapeCast S4x512x3072 (transpose S4x64x8x24x128 [0, 1, 3, 2, 4] (shapeCast S4x64x24x8x128 ((dats m 0 c).arrAt 6 (cfgs 0).N : Vec Ideal S256x192x128 .bf16)
      shapeCasts_S256x192x128_S4x64x24x8x128) transposes_S4x64x24x8x128_S4x64x8x24x128_0_1_3_2_4) shapeCasts_S4x64x8x24x128_S4x512x3072 := by
  unfold Pipeline.afterTail₀
  rw [show ([hostOps1] : List (List (HloOp τ sig (Elt Ideal)))).flatten = hostOps1 from rfl]
  unfold_abbrev_sides
  after_results
  have h := Pipeline.withArrays_arr spec0 arr_inj c (V0 m c) (fun w => (dats m 0 c).arrAt w (cfgs 0).N) 6
  rw [← h]
  rfl

/-- The new scales of the first moment, back in the order of the array. -/
theorem tail_ms (c : Dev nD) : Pipeline.afterTail₀ cfgs (dats m) 0 (V0 m) [hostOps1] c main_v18 =
    shapeCast S4x768 (transpose S4x6x128 [1, 0, 2] (shapeCast S6x4x128 ((dats m 0 c).arrAt 8 (cfgs 0).N : Vec Ideal S24x128 .f32)
      shapeCasts_S24x128_S6x4x128) transposes_S6x4x128_S4x6x128_1_0_2) shapeCasts_S4x6x128_S4x768 := by
  unfold Pipeline.afterTail₀
  rw [show ([hostOps1] : List (List (HloOp τ sig (Elt Ideal)))).flatten = hostOps1 from rfl]
  unfold_abbrev_sides
  after_results
  have h := Pipeline.withArrays_arr spec0 arr_inj c (V0 m c) (fun w => (dats m 0 c).arrAt w (cfgs 0).N) 8
  rw [← h]
  rfl

/-- The new scales of the second moment, back in the order of the array. -/
theorem tail_vs (c : Dev nD) : Pipeline.afterTail₀ cfgs (dats m) 0 (V0 m) [hostOps1] c main_v21 =
    shapeCast S4x768 (transpose S4x6x128 [1, 0, 2] (shapeCast S6x4x128 ((dats m 0 c).arrAt 10 (cfgs 0).N : Vec Ideal S24x128 .f32)
      shapeCasts_S24x128_S6x4x128) transposes_S6x4x128_S4x6x128_1_0_2) shapeCasts_S4x6x128_S4x768 := by
  unfold Pipeline.afterTail₀
  rw [show ([hostOps1] : List (List (HloOp τ sig (Elt Ideal)))).flatten = hostOps1 from rfl]
  unfold_abbrev_sides
  after_results
  have h := Pipeline.withArrays_arr spec0 arr_inj c (V0 m c) (fun w => (dats m 0 c).arrAt w (cfgs 0).N) 10
  rw [← h]
  rfl

/-- The weights' groups of rows read back at an index of the tensor. -/
theorem ungroup_at (X : Vec Ideal S256x192x128 .bf16) (b : Fin 4) (r : Fin 512) (k : Fin 3072) :
    shapeCast S4x512x3072 (transpose S4x64x8x24x128 [0, 1, 3, 2, 4] (shapeCast S4x64x24x8x128 X
      shapeCasts_S256x192x128_S4x64x24x8x128) transposes_S4x64x24x8x128_S4x64x8x24x128_0_1_3_2_4) shapeCasts_S4x64x8x24x128_S4x512x3072 (ix3 b r k)
      = at3 X (64 * b.val + r.val / 8) (k.val / 128 * 8 + r.val % 8) (k.val % 128) := by
  pointwise
  refine at3_of X _ ?_ rfl rfl
  show b.val * 64 + r.val / 8 = _; omega

/-- The scales' cells read back at an index of the array. -/
theorem uncell_at (X : Vec Ideal S24x128 .f32) (b : Fin 4) (n : Fin 768) :
    shapeCast S4x768 (transpose S4x6x128 [1, 0, 2] (shapeCast S6x4x128 X
      shapeCasts_S24x128_S6x4x128) transposes_S6x4x128_S4x6x128_1_0_2) shapeCasts_S4x6x128_S4x768 (ix2 b n)
      = at2 X (n.val / 128 * 4 + b.val) (n.val % 128) := by
  pointwise
  exact at2_of X _ rfl rfl

/-- A weight's place in its group of rows, as block and element of the block. -/
theorem place (b r k : Nat) (hb : b < 4) (hr : r < 512) (hk : k < 3072) :
    (64 * b + r / 8) % 256 / 64 = b
    ∧ 192 * ((64 * b + r / 8) % 256 % 64 / 16) + (12 * ((64 * b + r / 8) % 256 % 16) + backR ((k / 128 * 8 + r % 8) % 192)) = (r * 3072 + k) / 2048
    ∧ backC ((k / 128 * 8 + r % 8) % 192) * 128 + k % 128 % 128 = (r * 3072 + k) % 2048 := by
  have hG : (64 * b + r / 8) % 256 = 64 * b + r / 8 := Nat.mod_eq_of_lt (by omega)
  have hu : (k / 128 * 8 + r % 8) % 192 = k / 128 * 8 + r % 8 := Nat.mod_eq_of_lt (by omega)
  have h8 : (k / 128 * 8 + r % 8) % 8 = r % 8 := by omega
  have hd : (k / 128 * 8 + r % 8) / 8 = k / 128 := by omega
  unfold backR backC
  rw [hG, hu, h8, hd]
  have hz := Nat.div_add_mod (r % 8 * 24 + k / 128) 16
  have hzl := Nat.mod_lt (r % 8 * 24 + k / 128) (by omega : 16 > 0)
  have hf : r * 3072 + k = (12 * (r / 8) + (r % 8 * 24 + k / 128) / 16) * 2048 + ((r % 8 * 24 + k / 128) % 16 * 128 + k % 128) := by omega
  generalize (r % 8 * 24 + k / 128) / 16 = y at *
  generalize (r % 8 * 24 + k / 128) % 16 = z at *
  have hq : (r * 3072 + k) / 2048 = 12 * (r / 8) + y := by
    rw [hf, Nat.add_comm, Nat.add_mul_div_right _ _ (by omega : 0 < 2048), Nat.div_eq_of_lt (by omega), Nat.zero_add]
  have hm : (r * 3072 + k) % 2048 = z * 128 + k % 128 := by
    rw [hf, Nat.add_comm, Nat.add_mul_mod_self_right, Nat.mod_eq_of_lt (by omega)]
  rw [hq, hm]
  refine ⟨by omega, by omega, by omega⟩

/-- The first result: the new weights. -/
theorem result_w (c : Dev nD) : Pipeline.afterTail₀ cfgs (dats m) 0 (V0 m) [hostOps1] c main_v15 = weights (args m c) := by
  rw [tail_w, final_w]
  funext j
  refine Eq.trans (congrArg _ (eq_ix3 j)) ((ungroup_at _ (j 0) (j 1) (j 2)).trans ?_)
  have h0 : (j 0).val < 4 := (j 0).isLt
  have h1 : (j 1).val < 512 := (j 1).isLt
  have h2 : (j 2).val < 3072 := (j 2).isLt
  obtain ⟨p0, p1, p2⟩ := place (j 0).val (j 1).val (j 2).val h0 h1 h2
  show weightAt (arrs m c) ((64 * (j 0).val + (j 1).val / 8) % 256 / 64) ((64 * (j 0).val + (j 1).val / 8) % 256 % 64 / 16)
      ((64 * (j 0).val + (j 1).val / 8) % 256 % 16) (((j 2).val / 128 * 8 + (j 1).val % 8) % 192) ((j 2).val % 128 % 128)
    = nextW (args m c) (j 0).val (((j 1).val * 3072 + (j 2).val) / 2048) (((j 1).val * 3072 + (j 2).val) % 2048)
  unfold weightAt
  rw [p0, p1, p2, stepW_eq m c _ _ _ h0 (by omega) (by omega)]

/-- The second result: the new codes of the first moment. -/
theorem result_mc (c : Dev nD) : (dats m 0 c).arrAt 7 (cfgs 0).N = codes (nextM (args m c)) := by
  rw [final_mc]
  funext j
  show codeAt (stepM (arrs m c)) (j 0).val (j 1).val (j 2).val = codeAt (nextM (args m c)) (j 0).val (j 1).val (j 2).val
  have h0 : (j 0).val < 4 := (j 0).isLt
  have h1 : (j 1).val < 768 := (j 1).isLt
  unfold codeAt
  rw [stepM_eq m c _ _ _ h0 h1 (j 2).isLt, ratioOf_congr fun e he => stepM_eq m c _ _ e h0 h1 he]

/-- The fourth result: the new codes of the second moment. -/
theorem result_vc (c : Dev nD) : (dats m 0 c).arrAt 9 (cfgs 0).N = codes (nextV (args m c)) := by
  rw [final_vc]
  funext j
  show codeAt (stepV (arrs m c)) (j 0).val (j 1).val (j 2).val = codeAt (nextV (args m c)) (j 0).val (j 1).val (j 2).val
  have h0 : (j 0).val < 4 := (j 0).isLt
  have h1 : (j 1).val < 768 := (j 1).isLt
  unfold codeAt
  rw [stepV_eq m c _ _ _ h0 h1 (j 2).isLt, ratioOf_congr fun e he => stepV_eq m c _ _ e h0 h1 he]

/-- The third result: the new scales of the first moment. -/
theorem result_ms (c : Dev nD) : Pipeline.afterTail₀ cfgs (dats m) 0 (V0 m) [hostOps1] c main_v18 = scales (nextM (args m c)) := by
  rw [tail_ms, final_ms]
  funext j
  refine Eq.trans (congrArg _ (eq_ix2 j)) ((uncell_at _ (j 0) (j 1)).trans ?_)
  have h0 : (j 0).val < 4 := (j 0).isLt
  have h1 : (j 1).val < 768 := (j 1).isLt
  show scaleOf (ratioOf (stepM (arrs m c) (((j 1).val / 128 * 4 + (j 0).val) % 24 % 4) (((j 1).val / 128 * 4 + (j 0).val) % 24 / 4 * 128 + (j 1).val % 128 % 128)))
    = scaleOf (ratioOf (nextM (args m c) (j 0).val (j 1).val))
  rw [show ((j 1).val / 128 * 4 + (j 0).val) % 24 % 4 = (j 0).val by omega,
    show ((j 1).val / 128 * 4 + (j 0).val) % 24 / 4 * 128 + (j 1).val % 128 % 128 = (j 1).val by omega,
    ratioOf_congr fun e he => stepM_eq m c _ _ e h0 h1 he]

/-- The fifth result: the new scales of the second moment. -/
theorem result_vs (c : Dev nD) : Pipeline.afterTail₀ cfgs (dats m) 0 (V0 m) [hostOps1] c main_v21 = scales (nextV (args m c)) := by
  rw [tail_vs, final_vs]
  funext j
  refine Eq.trans (congrArg _ (eq_ix2 j)) ((uncell_at _ (j 0) (j 1)).trans ?_)
  have h0 : (j 0).val < 4 := (j 0).isLt
  have h1 : (j 1).val < 768 := (j 1).isLt
  show scaleOf (ratioOf (stepV (arrs m c) (((j 1).val / 128 * 4 + (j 0).val) % 24 % 4) (((j 1).val / 128 * 4 + (j 0).val) % 24 / 4 * 128 + (j 1).val % 128 % 128)))
    = scaleOf (ratioOf (nextV (args m c) (j 0).val (j 1).val))
  rw [show ((j 1).val / 128 * 4 + (j 0).val) % 24 % 4 = (j 0).val by omega,
    show ((j 1).val / 128 * 4 + (j 0).val) % 24 / 4 * 128 + (j 1).val % 128 % 128 = (j 1).val by omega,
    ratioOf_congr fun e he => stepV_eq m c _ _ e h0 h1 he]

end Cert.KernelIdeal.Values

end
-- ==== Proof.Numbers.lean ====
/-
  The equations between extended reals by which the two spellings of the step agree: a square root against the reciprocal of a
  reciprocal root, one maximum of a block against 128 running ones, and the exponent of a scale against the exponent less one.
-/
module

public import proofs.«01_k».proof.Proof.Global
public import Idealize.ShloMosaic.Lib.IdealHost

@[expose] public section

set_option maxRecDepth 16384

noncomputable section

namespace Cert.KernelIdeal.Values

open Idealize.ShloMosaic Idealize.SL.Sem

/-- The root of a real. -/
theorem sqrt_coe (r : ℝ) : Ideal.sqrt (r : EReal) = if r < 0 then ⊥ else (Real.sqrt r : EReal) := rfl
/-- The reciprocal root of a real. -/
theorem rsqrt_coe (r : ℝ) : Ideal.rsqrt (r : EReal) = if r < 0 then ⊥ else if r = 0 then ⊤ else (((Real.sqrt r)⁻¹ : ℝ) : EReal) := rfl
/-- The root of 0. -/
theorem sqrt_zero : Ideal.sqrt 0 = 0 := by
  rw [show (0 : EReal) = ((0 : ℝ) : EReal) from rfl, sqrt_coe, if_neg (lt_irrefl _), Real.sqrt_zero]

/-- The reciprocal of the reciprocal root is the root, of the part above 0. -/
theorem one_div_rsqrt (v : EReal) : Ideal.div 1 (Ideal.rsqrt v) = Ideal.sqrt (max v 0) := by
  induction v with
  | bot =>
    rw [show Ideal.rsqrt ⊥ = ⊥ from rfl, max_eq_right bot_le, sqrt_zero]
    simp [Ideal.div]
  | top =>
    rw [show Ideal.rsqrt ⊤ = 0 from rfl, max_eq_left le_top, show Ideal.sqrt ⊤ = ⊤ from rfl]
    simp [Ideal.div]
  | coe r =>
    rw [rsqrt_coe]
    rcases lt_trichotomy r 0 with h | h | h
    · rw [max_eq_right (by exact_mod_cast h.le), if_pos h, sqrt_zero]
      simp [Ideal.div]
    · subst h
      rw [if_neg (lt_irrefl _), if_pos rfl, max_eq_right (by simp), sqrt_zero]
      simp [Ideal.div]
    · have hs : (Real.sqrt r)⁻¹ ≠ 0 := inv_ne_zero (Real.sqrt_pos.mpr h).ne'
      rw [if_neg h.not_gt, if_neg h.ne', max_eq_left (by exact_mod_cast h.le), sqrt_coe, if_neg h.not_gt]
      unfold Ideal.div
      rw [if_neg (by exact_mod_cast hs), one_mul, ← EReal.coe_inv, inv_inv]

/-- The root of the part above 0 is not negative. -/
theorem sqrt_nonneg (v : EReal) : 0 ≤ Ideal.sqrt (max v 0) := by
  induction v with
  | bot => rw [max_eq_right bot_le, sqrt_zero]
  | top => rw [max_eq_left le_top, show Ideal.sqrt ⊤ = ⊤ from rfl]; exact le_top
  | coe r =>
    rcases le_total r 0 with h | h
    · rw [max_eq_right (by exact_mod_cast h), sqrt_zero]
    · rw [max_eq_left (by exact_mod_cast h), sqrt_coe, if_neg h.not_gt]
      exact_mod_cast Real.sqrt_nonneg r

/-- The number added to the root is positive. -/
theorem eps_pos : (0 : EReal) < Ideal.ofBits FTy.f32 0x30892154#32 := by
  simp [Ideal.ofBits, Ideal.ieee, -EReal.coe_mul]

/-- A product with a reciprocal is a quotient. -/
theorem div_one_mul (a d : EReal) (h : d ≠ 0) : a * Ideal.div 1 d = Ideal.div a d := by
  unfold Ideal.div; rw [if_neg h, if_neg h, one_mul]

/-- The weight's step, spelt with a square root. -/
theorem updW_eq (w m v : EReal) : updW w m v = w * Ideal.ofBits FTy.f32 0x3F7C28F6#32
    - Ideal.div (Ideal.ofBits FTy.f32 0x3AC8C9B9#32 * m) (Ideal.sqrt (max v 0) + Ideal.ofBits FTy.f32 0x30892154#32) := by
  unfold updW
  rw [one_div_rsqrt, div_one_mul]
  exact (lt_of_lt_of_le eps_pos (le_add_of_nonneg_left (sqrt_nonneg v))).ne'

/-- An absolute value is not negative. -/
theorem abs_nonneg' (a : EReal) : 0 ≤ max a (-a) := by
  rcases le_total 0 a with h | h
  · exact le_max_of_le_left h
  · exact le_max_of_le_right (by simpa using (EReal.neg_le_neg_iff (a := 0) (b := a)).mpr h)

/-- A running maximum is bounded exactly when 0 and the absolute values are. -/
theorem runMax_le (f : Nat → EReal) (x : EReal) : ∀ n, runMax f n ≤ x ↔ 0 ≤ x ∧ ∀ c < n, max (f c) (-f c) ≤ x
  | 0 => by simp [runMax]
  | n + 1 => by
    unfold runMax
    rw [max_le_iff, runMax_le f x n]
    constructor
    · rintro ⟨⟨h0, h⟩, hn⟩
      refine ⟨h0, fun c hc => ?_⟩
      rcases Nat.lt_succ_iff_lt_or_eq.mp hc with h' | rfl
      · exact h c h'
      · exact hn
    · rintro ⟨h0, h⟩
      exact ⟨⟨h0, fun c hc => h c (by omega)⟩, h n (by omega)⟩

/-- The largest absolute value of a block of 2048. -/
def largest (f : Nat → EReal) : EReal := Finset.fold max (Ideal.ofBits FTy.f32 0xFF800000#32) (fun e : Fin 2048 => max (f e.val) (-f e.val)) Finset.univ

/-- Minus infinity. -/
theorem ofBits_bot : Ideal.ofBits FTy.f32 0xFF800000#32 = ⊥ := by
  simp [Ideal.ofBits, Ideal.ieee]
/-- Plus infinity. -/
theorem ofBits_top : Ideal.ofBits FTy.f32 0x7F800000#32 = ⊤ := by
  simp [Ideal.ofBits, Ideal.ieee]

/-- A largest value is bounded exactly when all values are. -/
theorem fold_le {n : Nat} (g : Fin n → EReal) (x : EReal) :
    Finset.fold max (Ideal.ofBits FTy.f32 0xFF800000#32) g Finset.univ ≤ x ↔ ∀ l, g l ≤ x := by
  rw [Finset.fold_max_le, ofBits_bot]
  simp

/-- 128 running maxima of 16 are one maximum of 2048. -/
theorem ratioOf_eq (f : Nat → EReal) : ratioOf f = largest f * Ideal.ofBits FTy.f32 0x3B124925#32 := by
  unfold ratioOf largest
  congr 1
  refine eq_of_forall_ge_iff fun x => ?_
  rw [fold_le, fold_le]
  simp only [runMax_le]
  constructor
  · intro h e
    have h1 := (h ⟨e.val % 128, by omega⟩).2 (e.val / 128) (by omega)
    have e1 : e.val / 128 * 128 + e.val % 128 = e.val := by omega
    simpa only [e1] using h1
  · intro h l
    refine ⟨(abs_nonneg' (f 0)).trans (h 0), fun c hc => ?_⟩
    exact h ⟨c * 128 + l.val, by omega⟩

/-- The largest absolute value is not negative. -/
theorem largest_nonneg (f : Nat → EReal) : 0 ≤ largest f := by
  have h := (fold_le (fun e : Fin 2048 => max (f e.val) (-f e.val)) (largest f)).mp le_rfl 0
  exact (abs_nonneg' _).trans h

/-- The exponent of a block's scale, from its largest absolute value. -/
def exponentOf (a : EReal) : EReal :=
  Scalar.select (IntOp.ori (BitVec.ofBool (decide (a = 0))) (BitVec.ofBool (decide (a = Ideal.ofBits FTy.f32 0x7F800000#32))))
    0 (Ideal.liftRound Int.floor (Ideal.div (Ideal.log (a * Ideal.ofBits FTy.f32 0x3B124925#32)) (Ideal.log (Ideal.ofBits FTy.f32 0x40000000#32))) + 1)

/-- The reciprocal of the largest code is a positive real. -/
theorem part_real : ∃ k : ℝ, 0 < k ∧ Ideal.ofBits FTy.f32 0x3B124925#32 = (k : EReal) := by
  refine ⟨(2 ^ 23 + 0x124925 : ℕ) * (2 : ℝ) ^ (-32 : ℤ), by positivity, ?_⟩
  simp [Ideal.ofBits, Ideal.ieee, -EReal.coe_mul]

/-- Minus one. -/
theorem neg_one : Ideal.ofBits FTy.f32 0xBF800000#32 = ((-1 : ℝ) : EReal) := by
  simp [Ideal.ofBits, Ideal.ieee, -EReal.coe_mul, -EReal.coe_neg]; norm_num

/-- A choice by either of two conditions. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp [Scalar.select, IntOp.ori, hp, hq]

/-- A ratio is 0 exactly when the value is. -/
theorem zero_iff (a : EReal) : a * Ideal.ofBits FTy.f32 0x3B124925#32 = 0 ↔ a = 0 := by
  obtain ⟨k, hk, e⟩ := part_real
  rw [e, mul_eq_zero]
  constructor
  · rintro (h | h)
    · exact h
    · exact absurd (by exact_mod_cast h) hk.ne'
  · exact Or.inl

/-- A ratio is infinite exactly when the value is. -/
theorem top_iff (a : EReal) (h : 0 ≤ a) : a * Ideal.ofBits FTy.f32 0x3B124925#32 = ⊤ ↔ a = ⊤ := by
  obtain ⟨k, hk, e⟩ := part_real
  rw [e]
  induction a with
  | bot => simp at h
  | top => simp [EReal.top_mul_coe_of_pos hk]
  | coe r => exact iff_of_false (by rw [← EReal.coe_mul]; exact EReal.coe_ne_top _) (EReal.coe_ne_top _)

/-- The exponent, from the ratio's. -/
theorem exponent_eq (f : Nat → EReal) : expoOf (ratioOf f) + 1 = exponentOf (largest f) := by
  unfold expoOf exponentOf
  rw [select_or, select_or, ratioOf_eq, ofBits_top]
  simp only [zero_iff, top_iff _ (largest_nonneg f)]
  split_ifs
  · rw [neg_one]; rw [show (1 : EReal) = ((1 : ℝ) : EReal) from rfl, ← EReal.coe_add]; norm_num
  · rfl

/-- Minus one less a number is 0 less the number and one. -/
theorem neg_shift (y : EReal) : ((-1 : ℝ) : EReal) - y = 0 - (y + 1) := by
  induction y with
  | bot => rw [EReal.bot_add, EReal.coe_sub_bot, sub_eq_add_neg, EReal.neg_bot, zero_add]
  | top => rw [show (1 : EReal) = ((1 : ℝ) : EReal) from rfl, EReal.top_add_coe, EReal.sub_top, EReal.sub_top]
  | coe r =>
    rw [show (1 : EReal) = ((1 : ℝ) : EReal) from rfl, show (0 : EReal) = ((0 : ℝ) : EReal) from rfl, ← EReal.coe_add, ← EReal.coe_sub, ← EReal.coe_sub]
    congr 1; ring

/-- The scale of a block. -/
theorem scaleOf_eq (f : Nat → EReal) : scaleOf (ratioOf f) = (FloatOps.exp2 (F := Ideal) (φ := .f32) (exponentOf (largest f)) : EReal) := by
  unfold scaleOf; rw [exponent_eq]

/-- The inverse of the scale of a block. -/
theorem inverseOf_eq (f : Nat → EReal) :
    inverseOf (ratioOf f) = (FloatOps.exp2 (F := Ideal) (φ := .f32) (0 - exponentOf (largest f) : EReal) : EReal) := by
  unfold inverseOf; rw [neg_one, neg_shift, exponent_eq]

end Cert.KernelIdeal.Values

end
-- ==== Proof.Reference.lean ====
/-
  What the reference program computes, at every index: the two moments stepped, the new weights, and the codes and scales of a
  moment, in the words of Answers.lean.
-/
module

public import proofs.«01_k».proof.Proof.Answers
public import proofs.«01_k».proof.Proof.Numbers
public import proofs.«01_k».proof.Proof.Gen.ReferenceIdeal.Frame
public import Idealize.ShloMosaic.Lib.Pipeline.ValueKit

@[expose] public section

set_option maxRecDepth 16384

noncomputable section

namespace Cert.ReferenceIdeal.Values

open Idealize.ShloMosaic Idealize.ShloMosaic.TcCoe Idealize.ShloMosaic.Tactic
open Idealize.SL.Sem
open Cert.ReferenceIdeal.Gen
open Cert.KernelIdeal.Values (Args at2 at3 flat nextM nextV nextW weights codes scales updM updV updW largest exponentOf codeAt codeOf at2_eq at3_eq)

variable (m : (ℓ : Loc nD τ sig) → Buf (Elt Ideal) ℓ)

/-- The arguments. -/
def args (c : Dev nD) : Args where
  w := m ((c : Thread nD τ).loc main_arg0)
  g := m ((c : Thread nD τ).loc main_arg1)
  mc := m ((c : Thread nD τ).loc main_arg2)
  ms := m ((c : Thread nD τ).loc main_arg3)
  vc := m ((c : Thread nD τ).loc main_arg4)
  vs := m ((c : Thread nD τ).loc main_arg5)

/-- Element `e` of block `n` of batch `b` of a reshaped tensor. -/
theorem block_at (X : Vec Ideal S4x512x3072 .bf16) (b : Fin 4) (n : Fin 768) (e : Fin 2048) :
    shapeCast S4x768x2048 X shapeCasts_S4x512x3072_S4x768x2048 (ix3 b n e) = flat X b.val n.val e.val := by
  pointwise
  refine Cert.KernelIdeal.Values.at3_of X _ ?_ ?_ ?_
  · rfl
  · show (b.val * 1572864 + n.val * 2048 + e.val) / 3072 % 512 = _; omega
  · show (b.val * 1572864 + n.val * 2048 + e.val) % 3072 = _; omega

/-- The first moment at an index. -/
theorem m_at (x2 : Vec Ideal S4x768x2048 .fp8e4m3) (x3 : Vec Ideal S4x768 .f32) (x1 : Vec Ideal S4x768x2048 .bf16) (b : Fin 4) (n : Fin 768) (e : Fin 2048) :
    k0_pay5 x2 x3 x1 (ix3 b n e) = updM (x3 (ix2 b n)) (x2 (ix3 b n e)) (x1 (ix3 b n e)) := by
  unfold k0_pay5 k0_pay4 updM
  pointwise

/-- The second moment at an index. -/
theorem v_at (x4 : Vec Ideal S4x768x2048 .fp8e4m3) (x5 : Vec Ideal S4x768 .f32) (x1 : Vec Ideal S4x768x2048 .bf16) (b : Fin 4) (n : Fin 768) (e : Fin 2048) :
    k0_pay6 x4 x5 x1 (ix3 b n e) = updV (x5 (ix2 b n)) (x4 (ix3 b n e)) (x1 (ix3 b n e)) := by
  unfold k0_pay6 k0_pay4 updV
  pointwise

/-- The new weight at an index. -/
theorem w_at (x0 : Vec Ideal S4x768x2048 .bf16) (x1 : Vec Ideal S4x768x2048 .bf16) (x2 : Vec Ideal S4x768x2048 .fp8e4m3) (x3 : Vec Ideal S4x768 .f32) (x4 : Vec Ideal S4x768x2048 .fp8e4m3) (x5 : Vec Ideal S4x768 .f32) (b : Fin 4) (n : Fin 768) (e : Fin 2048) :
    k0_pay10 (k0_pay7 x0) (k0_pay8 x2 x3 x1) (k0_pay9 x4 x5 x1) (Scalar.ofBits .f32 0x30892154#32) (ix3 b n e)
      = updW (x0 (ix3 b n e)) (k0_pay5 x2 x3 x1 (ix3 b n e)) (k0_pay6 x4 x5 x1 (ix3 b n e)) := by
  rw [Cert.KernelIdeal.Values.updW_eq]
  unfold k0_pay10 k0_pay7 k0_pay8 k0_pay9
  pointwise

/-- The exponents of the blocks' scales, from the blocks' largest absolute values. -/
def exponents (y : FVec Ideal S4x768 .f32) : FVec Ideal S4x768 .f32 :=
  select (ori (cmpf .oeq y (broadcast S4x768 (Scalar.ofBits .f32 0x00000000#32))) (cmpf .oeq y (broadcast S4x768 (Scalar.ofBits .f32 0x7F800000#32))))
    (broadcast S4x768 (Scalar.ofBits .f32 0x00000000#32))
    (addf (floor (divf (log (mulf y (broadcast S4x768 (Scalar.ofBits .f32 0x3B124925#32)))) (log (broadcast S4x768 (Scalar.ofBits .f32 0x40000000#32)))))
      (broadcast S4x768 (Scalar.ofBits .f32 0x3F800000#32)))

/-- One exponent. -/
theorem exponents_at (y : FVec Ideal S4x768 .f32) (b : Fin 4) (n : Fin 768) : exponents y (ix2 b n) = exponentOf (y (ix2 b n)) := by
  unfold exponents exponentOf; pointwise

/-- The codes of values, from their blocks' exponents. -/
def codesOf (x : FVec Ideal S4x768x2048 .f32) (y : FVec Ideal S4x768 .f32) : FVec Ideal S4x768x2048 .fp8e4m3 :=
  truncf .fp8e4m3 (minimumf (broadcast S4x768x2048 (Scalar.ofBits .f32 0x43E00000#32)) (maximumf (broadcast S4x768x2048 (Scalar.ofBits .f32 0xC3E00000#32))
    (mulf x (broadcastTo S4x768x2048 (shapeCast S4x768x1 (exp2 (subf (broadcast S4x768 (Scalar.ofBits .f32 0x00000000#32)) y)) shapeCasts_S4x768_S4x768x1)
      broadcasts_S4x768x1_S4x768x2048)))) bitsLt_fp8e4m3_f32

/-- One code. -/
theorem codesOf_at (x : FVec Ideal S4x768x2048 .f32) (y : FVec Ideal S4x768 .f32) (b : Fin 4) (n : Fin 768) (e : Fin 2048) : codesOf x y (ix3 b n e)
   = Cert.KernelIdeal.Values.codeOf (x (ix3 b n e)) (FloatOps.exp2 (F := Ideal) (φ := .f32) (0 - (y (ix2 b n) : EReal) : EReal) : EReal) := by
  unfold codesOf Cert.KernelIdeal.Values.codeOf
  pointwise

/-- A largest element of every block. -/
theorem max_at (x : FVec Ideal S4x768x2048 .f32) (b : Fin 4) (n : Fin 768) :
    (multiReduction .maximumf [2] S4x768 x 0xFF800000#32 reduces_S4x768x2048_S4x768 (.inl rfl) rfl : FVec Ideal S4x768 .f32) (ix2 b n)
      = Finset.fold max (Ideal.ofBits FTy.f32 0xFF800000#32) (fun e : Fin 2048 => x (ix3 b n e)) Finset.univ := by
  pointwise

/-- A vector that holds a function of batch, block and element. -/
def Holds (x : FVec Ideal S4x768x2048 .f32) (f : Nat → Nat → Nat → EReal) : Prop :=
  ∀ (b : Fin 4) (n : Fin 768) (e : Fin 2048), x (ix3 b n e) = f b.val n.val e.val

/-- The blocks' largest absolute values. -/
theorem largest_at {x : FVec Ideal S4x768x2048 .f32} {f : Nat → Nat → Nat → EReal} (h : Holds x f) (b : Fin 4) (n : Fin 768) :
    (multiReduction .maximumf [2] S4x768 (absf x) 0xFF800000#32 reduces_S4x768x2048_S4x768 (.inl rfl) rfl : FVec Ideal S4x768 .f32) (ix2 b n)
      = largest (f b.val n.val) := by
  rw [max_at]
  unfold largest
  congr 1
  funext e
  show max (x (ix3 b n e) : EReal) (-(x (ix3 b n e) : EReal)) = _
  rw [h b n e]

/-- The exponents that the program computes from a moment. -/
def exponentsOf (x : FVec Ideal S4x768x2048 .f32) : FVec Ideal S4x768 .f32 :=
  exponents (multiReduction .maximumf [2] S4x768 (absf x) 0xFF800000#32 reduces_S4x768x2048_S4x768 (.inl rfl) rfl : FVec Ideal S4x768 .f32)

/-- They are the exponents of the blocks' largest absolute values. -/
theorem exponentsOf_at {x : FVec Ideal S4x768x2048 .f32} {f : Nat → Nat → Nat → EReal} (h : Holds x f) (b : Fin 4) (n : Fin 768) :
    exponentsOf x (ix2 b n) = exponentOf (largest (f b.val n.val)) := by
  unfold exponentsOf
  rw [exponents_at, largest_at h]

/-- A code of a moment. -/
theorem codes_at {x : FVec Ideal S4x768x2048 .f32} {f : Nat → Nat → Nat → EReal} (h : Holds x f) (b : Fin 4) (n : Fin 768) (e : Fin 2048) :
    codesOf x (exponentsOf x) (ix3 b n e) = codeAt f b.val n.val e.val := by
  rw [codesOf_at, exponentsOf_at h, h b n e]
  unfold codeAt
  rw [Cert.KernelIdeal.Values.inverseOf_eq]

/-- A power of two, by blocks. -/
theorem exp2_at (y : FVec Ideal S4x768 .f32) (b : Fin 4) (n : Fin 768) :
    exp2 y (ix2 b n) = FloatOps.exp2 (F := Ideal) (φ := .f32) (y (ix2 b n)) := rfl

/-- A scale of a moment. -/
theorem scales_at {x : FVec Ideal S4x768x2048 .f32} {f : Nat → Nat → Nat → EReal} (h : Holds x f) (b : Fin 4) (n : Fin 768) :
    exp2 (exponentsOf x) (ix2 b n) = Cert.KernelIdeal.Values.scaleOf (Cert.KernelIdeal.Values.ratioOf (f b.val n.val)) := by
  rw [exp2_at, exponentsOf_at h, Cert.KernelIdeal.Values.scaleOf_eq]

/-- The codes of a moment. -/
theorem codes_of {x : FVec Ideal S4x768x2048 .f32} {f : Nat → Nat → Nat → EReal} (h : Holds x f) : codesOf x (exponentsOf x) = codes f := by
  funext j
  exact (congrArg (codesOf x (exponentsOf x)) (eq_ix3 j)).trans (codes_at h (j 0) (j 1) (j 2))

/-- The scales of a moment. -/
theorem scales_of {x : FVec Ideal S4x768x2048 .f32} {f : Nat → Nat → Nat → EReal} (h : Holds x f) : exp2 (exponentsOf x) = scales f := by
  funext j
  exact (congrArg (exp2 (exponentsOf x)) (eq_ix2 j)).trans (scales_at h (j 0) (j 1))

end Cert.ReferenceIdeal.Values

end
-- ==== Proof.Payloads.lean ====
/-
  The values that the reference program stores for the codes and scales are the functions of Reference.lean.
-/
module

public import proofs.«01_k».proof.Proof.Reference
public import proofs.«01_k».proof.Proof.Numbers
public import proofs.«01_k».proof.Proof.Gen.ReferenceIdeal.Frame
public import Idealize.ShloMosaic.Lib.Pipeline.ValueKit

@[expose] public section

set_option maxRecDepth 16384

noncomputable section

namespace Cert.ReferenceIdeal.Values

open Idealize.ShloMosaic Idealize.ShloMosaic.TcCoe Idealize.ShloMosaic.Tactic
open Idealize.SL.Sem
open Cert.ReferenceIdeal.Gen
open Cert.KernelIdeal.Values (Args at2 at3 flat nextM nextV nextW weights codes scales updM updV updW largest exponentOf codeAt codeOf at2_eq at3_eq)

/-- The exponents that the program computes for the first moment. -/
theorem pay11_eq (x : FVec Ideal S4x768x2048 .f32) : k0_pay11 x = exponentsOf x := by
  unfold k0_pay11 exponentsOf exponents
  rfl

/-- The exponents that the program computes for the second moment. -/
theorem pay1_eq (x : FVec Ideal S4x768x2048 .f32) : k0_pay1 (k0_pay14 x) = exponentsOf x := by
  unfold k0_pay1 k0_pay14 exponentsOf exponents
  rfl

/-- The program's codes of the first moment. -/
theorem pay13_eq (x : FVec Ideal S4x768x2048 .f32) : k0_pay13 x = codesOf x (exponentsOf x) := by
  rw [← pay11_eq]; rfl
/-- The program's scales of the first moment. -/
theorem pay12_eq (x : FVec Ideal S4x768x2048 .f32) : k0_pay12 x = exp2 (exponentsOf x) := by
  rw [← pay11_eq]; rfl
/-- The program's codes of the second moment. -/
theorem pay3_eq (x : FVec Ideal S4x768x2048 .f32) : k0_pay3 x (k0_pay14 x) = codesOf x (exponentsOf x) := by
  rw [← pay1_eq]; rfl
/-- The program's scales of the second moment. -/
theorem pay2_eq (x : FVec Ideal S4x768x2048 .f32) : k0_pay2 (k0_pay14 x) = exp2 (exponentsOf x) := by
  rw [← pay1_eq]; rfl

end Cert.ReferenceIdeal.Values

end
-- ==== Proof.ReferenceResults.lean ====
/-
  What the reference program leaves in its five result arrays: its one block of each array is the whole array, so the results are
  those of Payloads.lean and Reference.lean, the weights after the reshape back to the order of the tensor.
-/
module

public import proofs.«01_k».proof.Proof.Payloads
public import proofs.«01_k».proof.Proof.Numbers
public import proofs.«01_k».proof.Proof.Gen.ReferenceIdeal.Frame
public import Idealize.ShloMosaic.Lib.Pipeline.ValueKit

@[expose] public section

set_option maxRecDepth 16384

noncomputable section

namespace Cert.ReferenceIdeal.Values

open Idealize.ShloMosaic Idealize.ShloMosaic.TcCoe Idealize.ShloMosaic.Tactic
open Idealize.SL.Sem
open Cert.ReferenceIdeal.Gen
open Cert.KernelIdeal.Values (Args at2 at3 flat nextM nextV nextW weights codes scales updM updV updW largest exponentOf codeAt codeOf at2_eq at3_eq)

variable (m : (ℓ : Loc nD τ sig) → Buf (Elt Ideal) ℓ)

/-- The windows' blocks: each array whole. -/
theorem idx : win0_0.index t0_0 = ![0, 0, 0] ∧ win0_1.index t0_0 = ![0, 0, 0] ∧ win0_2.index t0_0 = ![0, 0, 0] ∧ win0_3.index t0_0 = ![0, 0]
    ∧ win0_4.index t0_0 = ![0, 0, 0] ∧ win0_5.index t0_0 = ![0, 0] := by decide +kernel

/-- The weights by blocks. -/
def wBlocks (c : Dev nD) : Vec Ideal S4x768x2048 .bf16 := shapeCast S4x768x2048 (args m c).w shapeCasts_S4x512x3072_S4x768x2048
/-- The gradients by blocks. -/
def gBlocks (c : Dev nD) : Vec Ideal S4x768x2048 .bf16 := shapeCast S4x768x2048 (args m c).g shapeCasts_S4x512x3072_S4x768x2048

/-- What the first window finds in its array: the weights by blocks. -/
theorem entry0 (c : Dev nD) : V m c main_v0 = shapeCast S4x768x2048 (m ((c : Thread nD τ).loc main_arg0) : Vec Ideal S4x512x3072 .bf16) shapeCasts_S4x512x3072_S4x768x2048 := by
  entry_read
  rfl
/-- What the second window finds: the gradients by blocks. -/
theorem entry1 (c : Dev nD) : V m c main_v1 = shapeCast S4x768x2048 (m ((c : Thread nD τ).loc main_arg1) : Vec Ideal S4x512x3072 .bf16) shapeCasts_S4x512x3072_S4x768x2048 := by
  entry_read
  rfl

/-- The program's one block of the weights is the whole array. -/
theorem iblk0 (c : Dev nD) : iblk m c 0 t0_0 = wBlocks m c := by
  refine Eq.trans ?_ (entry0 m c)
  funext y
  blk_simp [iblk, idx]
  congr 1
  funext a
  apply Fin.ext
  fin_cases a <;> blk_simp [idx]
/-- Of the gradients. -/
theorem iblk1 (c : Dev nD) : iblk m c 1 t0_0 = gBlocks m c := by
  refine Eq.trans ?_ (entry1 m c)
  funext y
  blk_simp [iblk, idx]
  congr 1
  funext a
  apply Fin.ext
  fin_cases a <;> blk_simp [idx]
/-- Of the first moment's codes. -/
theorem iblk2 (c : Dev nD) : iblk m c 2 t0_0 = (args m c).mc := by
  show iblk m c 2 t0_0 = m ((c : Thread nD τ).loc main_arg2)
  blk_ext! [iblk, V, idx]
/-- Of the first moment's scales. -/
theorem iblk3 (c : Dev nD) : iblk m c 3 t0_0 = (args m c).ms := by
  show iblk m c 3 t0_0 = m ((c : Thread nD τ).loc main_arg3)
  blk_ext! [iblk, V, idx]
/-- Of the second moment's codes. -/
theorem iblk4 (c : Dev nD) : iblk m c 4 t0_0 = (args m c).vc := by
  show iblk m c 4 t0_0 = m ((c : Thread nD τ).loc main_arg4)
  blk_ext! [iblk, V, idx]
/-- Of the second moment's scales. -/
theorem iblk5 (c : Dev nD) : iblk m c 5 t0_0 = (args m c).vs := by
  show iblk m c 5 t0_0 = m ((c : Thread nD τ).loc main_arg5)
  blk_ext! [iblk, V, idx]

/-- The first moment stepped. -/
def newM (c : Dev nD) : FVec Ideal S4x768x2048 .f32 := k0_pay5 (args m c).mc (args m c).ms (gBlocks m c)
/-- The second moment stepped. -/
def newV (c : Dev nD) : FVec Ideal S4x768x2048 .f32 := k0_pay6 (args m c).vc (args m c).vs (gBlocks m c)

/-- At every index, the first moment stepped is the stepped moment of Answers.lean. -/
theorem newM_holds (c : Dev nD) : Holds (newM m c) (nextM (args m c)) := fun b n e => by
  unfold newM gBlocks nextM
  rw [m_at, block_at, at2_eq (args m c).ms b n, at3_eq (args m c).mc b n e]
/-- And so is the second. -/
theorem newV_holds (c : Dev nD) : Holds (newV m c) (nextV (args m c)) := fun b n e => by
  unfold newV gBlocks nextV
  rw [v_at, block_at, at2_eq (args m c).vs b n, at3_eq (args m c).vc b n e]

/-- The array of new weights, by blocks, after the run. -/
theorem final_w (c : Dev nD) : (dats m 0 c).arrAt 6 (cfgs 0).N = k0_pay10 (k0_pay7 (wBlocks m c)) (k0_pay8 (args m c).mc (args m c).ms (gBlocks m c))
    (k0_pay9 (args m c).vc (args m c).vs (gBlocks m c)) (Scalar.ofBits .f32 0x30892154#32) := by
  refine (dats m 0 c).arrAt_eq_of_after_last 6 t0_0 (by decide +kernel) _ fun j => ?_
  blk_simp
  rw [after0_6]
  frame_out
  rw [iblk0, iblk1, iblk2, iblk3, iblk4, iblk5]

/-- The second result: the new codes of the first moment. -/
theorem final_mc (c : Dev nD) : (dats m 0 c).arrAt 7 (cfgs 0).N = codes (nextM (args m c)) := by
  rw [← codes_of (newM_holds m c), ← pay13_eq]
  refine (dats m 0 c).arrAt_eq_of_after_last 7 t0_0 (by decide +kernel) _ fun j => ?_
  blk_simp
  rw [after0_7]
  frame_out [k0_pay15]
  rw [iblk1, iblk2, iblk3]
  rfl

/-- The third result: the new scales of the first moment. -/
theorem final_ms (c : Dev nD) : (dats m 0 c).arrAt 8 (cfgs 0).N = scales (nextM (args m c)) := by
  rw [← scales_of (newM_holds m c), ← pay12_eq]
  refine (dats m 0 c).arrAt_eq_of_after_last 8 t0_0 (by decide +kernel) _ fun j => ?_
  blk_simp
  rw [after0_8]
  frame_out [k0_pay15]
  rw [iblk1, iblk2, iblk3]
  rfl

/-- The fourth result: the new codes of the second moment. -/
theorem final_vc (c : Dev nD) : (dats m 0 c).arrAt 9 (cfgs 0).N = codes (nextV (args m c)) := by
  rw [← codes_of (newV_holds m c), ← pay3_eq]
  refine (dats m 0 c).arrAt_eq_of_after_last 9 t0_0 (by decide +kernel) _ fun j => ?_
  blk_simp
  rw [after0_9]
  frame_out [k0_pay16, k0_pay17]
  rw [iblk1, iblk4, iblk5]
  rfl

/-- The fifth result: the new scales of the second moment. -/
theorem final_vs (c : Dev nD) : (dats m 0 c).arrAt 10 (cfgs 0).N = scales (nextV (args m c)) := by
  rw [← scales_of (newV_holds m c), ← pay2_eq]
  refine (dats m 0 c).arrAt_eq_of_after_last 10 t0_0 (by decide +kernel) _ fun j => ?_
  blk_simp
  rw [after0_10]
  frame_out [k0_pay16, k0_pay17]
  rw [iblk1, iblk4, iblk5]
  rfl

/-- No two windows have the same array. -/
theorem arr_inj : Function.Injective (Pipeline.arrRef spec0) := by decide +kernel

/-- The new weights, back in the order of the tensor. -/
theorem tail_w (c : Dev nD) : Pipeline.afterTail₀ cfgs (dats m) 0 (V0 m) [hostOps1] c main_v3 =
    shapeCast S4x512x3072 ((dats m 0 c).arrAt 6 (cfgs 0).N : Vec Ideal S4x768x2048 .bf16) shapeCasts_S4x768x2048_S4x512x3072 := by
  unfold Pipeline.afterTail₀
  rw [show ([hostOps1] : List (List (HloOp τ sig (Elt Ideal)))).flatten = hostOps1 from rfl]
  unfold_abbrev_sides
  after_results
  have h := Pipeline.withArrays_arr spec0 arr_inj c (V0 m c) (fun w => (dats m 0 c).arrAt w (cfgs 0).N) 6
  rw [← h]
  rfl

/-- Row `r`, column `k` of a tensor, out of its blocks. -/
theorem unblock_at (X : Vec Ideal S4x768x2048 .bf16) (b : Fin 4) (r : Fin 512) (k : Fin 3072) :
    shapeCast S4x512x3072 X shapeCasts_S4x768x2048_S4x512x3072 (ix3 b r k) = at3 X b.val ((r.val * 3072 + k.val) / 2048) ((r.val * 3072 + k.val) % 2048) := by
  pointwise
  have h0 := b.isLt
  have h1 := r.isLt
  have h2 := k.isLt
  refine Cert.KernelIdeal.Values.at3_of X _ ?_ ?_ ?_
  · rfl
  · show (b.val * 1572864 + r.val * 3072 + k.val) / 2048 % 768 = _; omega
  · show (b.val * 1572864 + r.val * 3072 + k.val) % 2048 = _; omega

/-- A weight by its block and its place in the block. -/
theorem weight_at (c : Dev nD) (b : Fin 4) (n : Fin 768) (e : Fin 2048) :
    k0_pay10 (k0_pay7 (wBlocks m c)) (k0_pay8 (args m c).mc (args m c).ms (gBlocks m c)) (k0_pay9 (args m c).vc (args m c).vs (gBlocks m c))
      (Scalar.ofBits .f32 0x30892154#32) (ix3 b n e) = nextW (args m c) b.val n.val e.val := by
  have hm := newM_holds m c b n e
  have hv := newV_holds m c b n e
  unfold newM at hm
  unfold newV at hv
  rw [w_at, hm, hv]
  unfold wBlocks
  rw [block_at]
  rfl

/-- A weight by its row and column. -/
theorem result_w_at (c : Dev nD) (b : Fin 4) (r : Fin 512) (k : Fin 3072) :
    Pipeline.afterTail₀ cfgs (dats m) 0 (V0 m) [hostOps1] c main_v3 (ix3 b r k)
      = nextW (args m c) b.val ((r.val * 3072 + k.val) / 2048) ((r.val * 3072 + k.val) % 2048) := by
  rw [tail_w, final_w, unblock_at]
  have hn : (r.val * 3072 + k.val) / 2048 < 768 := by omega
  have he : (r.val * 3072 + k.val) % 2048 < 2048 := by omega
  exact (at3_eq _ b ⟨_, hn⟩ ⟨_, he⟩).symm.trans (weight_at m c b ⟨_, hn⟩ ⟨_, he⟩)

/-- The first result: the new weights. -/
theorem result_w (c : Dev nD) : Pipeline.afterTail₀ cfgs (dats m) 0 (V0 m) [hostOps1] c main_v3 = weights (args m c) := by
  funext j
  exact (congrArg _ (eq_ix3 j)).trans (result_w_at m c (j 0) (j 1) (j 2))

end Cert.ReferenceIdeal.Values

end
-- ==== Proof.Algebraic.lean ====
/-
  The two programs compute the same: each ends with the five results of Answers.lean, and the arguments of the one are those of
  the other.
-/
module

public import proofs.«01_k».proof.Defs
public import proofs.«01_k».proof.Proof.Results
public import proofs.«01_k».proof.Proof.ReferenceResults
public import proofs.«01_k».proof.Proof.Gen.KernelIdeal.Frame

@[expose] public section

open Idealize.ShloMosaic Idealize.ShloMosaic.TcCoe Idealize.ShloMosaic.Tactic
open Idealize.SL.Sem

namespace Cert.KernelIdeal.Values

open Cert.KernelIdeal.Gen

variable (m : (ℓ : Loc nD τ sig) → Buf (Elt Ideal) ℓ) (ρ : Dev nD → PrngReg)

/-- The kernel ends with the new weights, codes and scales of its arguments, which it leaves as they were. -/
theorem kernel_results : θ_run (defs (F := Ideal)) (onTc (τ := τ) (main (F := Ideal))) ⟨m, fun _ => 0, ρ⟩ (fun r => ∀ c : Dev nD,
    r.2.mem ((c.tc : Thread nD τ).loc main_v15) = weights (args m c)
    ∧ r.2.mem ((c.tc : Thread nD τ).loc main_v12_1) = codes (nextM (args m c))
    ∧ r.2.mem ((c.tc : Thread nD τ).loc main_v18) = scales (nextM (args m c))
    ∧ r.2.mem ((c.tc : Thread nD τ).loc main_v12_3) = codes (nextV (args m c))
    ∧ r.2.mem ((c.tc : Thread nD τ).loc main_v21) = scales (nextV (args m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c =>
    ⟨((h.1 c).2 main_v15 (Pipeline.mem_restRefs_of main_v15 (by decide) (by decide))).trans (result_w m c),
     ((h.1 c).1 7).trans (result_mc m c),
     ((h.1 c).2 main_v18 (Pipeline.mem_restRefs_of main_v18 (by decide) (by decide))).trans (result_ms m c),
     ((h.1 c).1 9).trans (result_vc m c),
     ((h.1 c).2 main_v21 (Pipeline.mem_restRefs_of main_v21 (by decide) (by decide))).trans (result_vs m c),
     h.2 c⟩)
    (θ_run_and ((θ_run defs _ _).mono (fun _ h => h.1) (run_main m ρ))
      (frame_of m ρ (dats m) (A_eq m) ((θ_run defs _ _).mono (fun _ h => h.1) (run_main m ρ))))

end Cert.KernelIdeal.Values

namespace Cert.ReferenceIdeal.Values

open Cert.ReferenceIdeal.Gen
open Cert.KernelIdeal.Values (nextM nextV weights codes scales)

variable (m : (ℓ : Loc nD τ sig) → Buf (Elt Ideal) ℓ) (ρ : Dev nD → PrngReg)

/-- And so does the reference. -/
theorem reference_results : θ_run (defs (F := Ideal)) (onTc (τ := τ) (main (F := Ideal))) ⟨m, fun _ => 0, ρ⟩ (fun r => ∀ c : Dev nD,
    r.2.mem ((c.tc : Thread nD τ).loc main_v3) = weights (args m c)
    ∧ r.2.mem ((c.tc : Thread nD τ).loc main_v2_1) = codes (nextM (args m c))
    ∧ r.2.mem ((c.tc : Thread nD τ).loc main_v2_2) = scales (nextM (args m c))
    ∧ r.2.mem ((c.tc : Thread nD τ).loc main_v2_3) = codes (nextV (args m c))
    ∧ r.2.mem ((c.tc : Thread nD τ).loc main_v2_4) = scales (nextV (args m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c =>
    ⟨((h.1 c).2 main_v3 (Pipeline.mem_restRefs_of main_v3 (by decide) (by decide))).trans (result_w m c),
     ((h.1 c).1 7).trans (final_mc m c), ((h.1 c).1 8).trans (final_ms m c),
     ((h.1 c).1 9).trans (final_vc m c), ((h.1 c).1 10).trans (final_vs m c), h.2 c⟩)
    (θ_run_and (run_main m ρ) (unchanged m ρ))

end Cert.ReferenceIdeal.Values

/-- From memories that agree on the arguments, the kernel and the reference end with the same five results, and with the
    arguments as they were. -/
theorem Cert.Proof.algebraic :
    Cert.algebraic_KernelIdeal_ReferenceIdeal (hKernelIdeal := Cert.KernelIdeal.Gen.facts) (hReferenceIdeal := Cert.ReferenceIdeal.Gen.facts) := by
  intro m g m' g' _ hargs
  have same : ∀ c, Cert.ReferenceIdeal.Values.args m' c = Cert.KernelIdeal.Values.args m c := fun c => by
    obtain ⟨h0, h1, h2, h3, h4, h5⟩ := hargs c
    unfold Cert.ReferenceIdeal.Values.args Cert.KernelIdeal.Values.args
    congr 1
  have hr := Cert.ReferenceIdeal.Values.reference_results m' g'
  simp only [same] at hr
  exact ⟨_, _, _, _, _, Cert.KernelIdeal.Values.kernel_results m g, hr⟩

end
-- ==== Proof.lean ====
/-
  The certificate's claim, put together: the frames of the kernel at both instances and of the reference, the idealization's
  rewrites, and the equality of the kernel's and the reference's results.
-/
module

public import proofs.«01_k».proof.Defs
public import proofs.«01_k».proof.Proof.KernelRun
public import proofs.«01_k».proof.Proof.KernelIdealRun
public import proofs.«01_k».proof.Proof.Algebraic
public import proofs.«01_k».proof.Proof.Gen.ReferenceIdeal.Frame
public import Idealize.ShloMosaic.Lib.Bf16Pair

@[expose] public section

open Idealize.ShloMosaic

/-- Each rewrite of the idealization is its rule's statement: the two ways to take a half out of a word of two bf16 values, and
    the packing of two f32 values to such a word. -/
theorem Cert.Proof.preserves : Cert.preserves_Kernel_KernelIdeal :=
  ⟨IdealRules.bf16_pair.statement Cert.KernelIdeal.S8x2x128 Cert.KernelIdeal.S8x1x128,
   IdealRules.bf16_pair.statement Cert.KernelIdeal.S16x128 Cert.KernelIdeal.S8x128,
   IdealRules.bf16_pair.packStatement Cert.KernelIdeal.S8x128⟩

theorem Cert.Proof.claim : Cert.Claim :=
  ⟨Cert.Kernel.Gen.facts, Cert.KernelIdeal.Gen.facts, Cert.ReferenceIdeal.Gen.facts,
   fun m ρ _ => Cert.Kernel.Stays.frame m ρ,
   fun m ρ _ => Cert.KernelIdeal.Stays.frame m ρ,
   fun m ρ _ => Cert.ReferenceIdeal.Gen.frame m ρ,
   Cert.Proof.preserves, Cert.Proof.algebraic⟩
